-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S32x12x325x2 : Shape := ⟨4, ![32, 12, 325, 2]⟩
abbrev S2x2600 : Shape := ⟨2, ![2, 2600]⟩
abbrev S2x128 : Shape := ⟨2, ![2, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S128x24 : Shape := ⟨2, ![128, 24]⟩
abbrev S24 : Shape := ⟨1, ![24]⟩
abbrev S_ : Shape := ⟨0, ![]⟩

class Facts : Prop where
  bcast_S_S2x2600 : S_.BroadcastsInDim S2x2600 (![] : Fin 0 → Fin S2x2600.rank)
  reducesTo_S2x2600_S_d0_1 : S2x2600.ReducesTo [0, 1] S_
  h_S_ : 0 < S_.numel
  bcast_S_S32x12x325x2 : S_.BroadcastsInDim S32x12x325x2 (![] : Fin 0 → Fin S32x12x325x2.rank)
  reducesTo_S32x12x325x2_S_d0_1_2_3 : S32x12x325x2.ReducesTo [0, 1, 2, 3] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128 .f32 := Host.absf main_arg7
  let main_cst_13 : FVec F S_ .f32 := constant S_ .f32 0x7F800000#32
  let main_v37 : FVec F S128 .f32 := broadcastInDim S128 ![] bcast_S_S128 main_cst_13
  let main_v38 : IVec S128 1 := cmpf .olt main_v36 main_v37
  let main_c_14 : IVec S_ 1 := constantI S_ 1 1#1
  let main_v39 : IVec S_ 1 := (fun x v => Host.reduce IntOp.andi x v reducesTo_S128_S_d0 h_S_) main_v38 main_c_14
  let main_v40 : IVec S_ 1 := andi main_v35 main_v39
  let main_v41 : FVec F S128 .f32 := Host.absf main_arg8
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  main_v45

def fn_part1 {F : FTy → Type} [FloatOps F] (main_arg4 : FVec F S128x128 .f32) (main_arg5 : FVec F S128 .f32) (main_arg6 : FVec F S128 .f32) (main_arg7 : FVec F S128 .f32) (main_arg8 : FVec F S128 .f32) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S128x128 .f32 := Host.absf main_arg4
  let main_cst_7 : FVec F S_ .f32 := constant S_ .f32 0x7F800000#32
  let main_v22 : FVec F S128x128 .f32 := broadcastInDim S128x128 ![] bcast_S_S128x128 main_cst_7
  let main_v23 : IVec S128x128 1 := cmpf .olt main_v21 main_v22
  let main_c_8 : IVec S_ 1 := constantI S_ 1 1#1
  let main_v24 : IVec S_ 1 := (fun x v => Host.reduce IntOp.andi x v reducesTo_S128x128_S_d0_1 h_S_) main_v23 main_c_8
  let main_v25 : IVec S_ 1 := andi main_v20 main_v24
  let main_v26 : FVec F S128 .f32 := Host.absf main_arg5
  let main_cst_9 : FVec F S_ .f32 := constant S_ .f32 0x7F800000#32
  let main_v27 : FVec F S128 .f32 := broadcastInDim S128 ![] bcast_S_S128 main_cst_9
  let main_v28 : IVec S128 1 := cmpf .olt main_v26 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v25 main_v29
  let main_v31 : FVec F S128 .f32 := Host.absf main_arg6
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg7 main_arg8 main_v30 main_v33

def fn {F : FTy → Type} [FloatOps F] (main_arg0 : FVec F S32x12x325x2 .f32) (main_arg1 : IVec S2x2600 32) (main_arg2 : FVec F S2x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S512x128 .f32) (main_arg11 : FVec F S512x128 .f32) (main_arg12 : FVec F S512 .f32) (main_arg13 : FVec F S512 .f32) (main_arg14 : FVec F S512x128 .f32) (main_arg15 : FVec F S512x128 .f32) (main_arg16 : FVec F S512 .f32) (main_arg17 : FVec F S512 .f32) (main_arg18 : FVec F S128x24 .f32) (main_arg19 : FVec F S24 .f32) : IVec S_ 1 :=
  let main_c : IVec S_ 32 := constantI S_ 32 0#32
  let main_v0 : IVec S2x2600 32 := broadcastInDim S2x2600 ![] bcast_S_S2x2600 main_c
  let main_v1 : IVec S2x2600 1 := cmpi .sge main_arg1 main_v0
  let main_c_0 : IVec S_ 32 := constantI S_ 32 325#32
  let main_v2 : IVec S2x2600 32 := broadcastInDim S2x2600 ![] bcast_S_S2x2600 main_c_0
  let main_v3 : IVec S2x2600 1 := cmpi .slt main_arg1 main_v2
  let main_v4 : IVec S2x2600 1 := andi main_v1 main_v3
  let main_c_1 : IVec S_ 1 := constantI S_ 1 1#1
  let main_v5 : IVec S_ 1 := (fun x v => Host.reduce IntOp.andi x v reducesTo_S2x2600_S_d0_1 h_S_) main_v4 main_c_1
  let main_v6 : FVec F S32x12x325x2 .f32 := Host.absf main_arg0
  let main_cst : FVec F S_ .f32 := constant S_ .f32 0x7F800000#32
  let main_v7 : FVec F S32x12x325x2 .f32 := broadcastInDim S32x12x325x2 ![] bcast_S_S32x12x325x2 main_cst
  let main_v8 : IVec S32x12x325x2 1 := cmpf .olt main_v6 main_v7
  let main_c_2 : IVec S_ 1 := constantI S_ 1 1#1
  let main_v9 : IVec S_ 1 := (fun x v => Host.reduce IntOp.andi x v reducesTo_S32x12x325x2_S_d0_1_2_3 h_S_) main_v8 main_c_2
  let main_v10 : IVec S_ 1 := andi main_v5 main_v9
  let main_v11 : FVec F S2x128 .f32 := Host.absf main_arg2
  let main_cst_3 : FVec F S_ .f32 := constant S_ .f32 0x7F800000#32
  let main_v12 : FVec F S2x128 .f32 := broadcastInDim S2x128 ![] bcast_S_S2x128 main_cst_3
  let main_v13 : IVec S2x128 1 := cmpf .olt main_v11 main_v12
  let main_c_4 : IVec S_ 1 := constantI S_ 1 1#1
  let main_v14 : IVec S_ 1 := (fun x v => Host.reduce IntOp.andi x v reducesTo_S2x128_S_d0_1 h_S_) main_v13 main_c_4
  let main_v15 : IVec S_ 1 := andi main_v10 main_v14
  let main_v16 : FVec F S128 .f32 := Host.absf main_arg3
  fn_part1 (F := F) main_arg4 main_arg5 main_arg6 main_arg7 main_arg8 main_v15 main_v16
-- ==== Kernel.lean ====
abbrev S32x12x325x2 : Shape := ⟨4, ![32, 12, 325, 2]⟩
abbrev S2x2600 : Shape := ⟨2, ![2, 2600]⟩
abbrev S2x128 : Shape := ⟨2, ![2, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S128x24 : Shape := ⟨2, ![128, 24]⟩
abbrev S24 : Shape := ⟨1, ![24]⟩
abbrev S2600x2 : Shape := ⟨2, ![2600, 2]⟩
abbrev S325x325 : Shape := ⟨2, ![325, 325]⟩
abbrev S12x325x32x2 : Shape := ⟨4, ![12, 325, 32, 2]⟩
abbrev S12x325x64 : Shape := ⟨3, ![12, 325, 64]⟩
abbrev S32x32 : Shape := ⟨2, ![32, 32]⟩
abbrev S_ : Shape := ⟨0, ![]⟩
abbrev S32x1x32x1 : Shape := ⟨4, ![32, 1, 32, 1]⟩
abbrev S1x2x1x128 : Shape := ⟨4, ![1, 2, 1, 128]⟩
abbrev S32x2x32x128 : Shape := ⟨4, ![32, 2, 32, 128]⟩
abbrev S64x4096 : Shape := ⟨2, ![64, 4096]⟩
abbrev S1x128 : Shape := ⟨2, ![1, 128]⟩
abbrev S32x128 : Shape := ⟨2, ![32, 128]⟩
abbrev S4096 : Shape := ⟨1, ![4096]⟩
abbrev S1x4096 : Shape := ⟨2, ![1, 4096]⟩
abbrev S12x325x4096 : Shape := ⟨3, ![12, 325, 4096]⟩
abbrev S12x10400x128 : Shape := ⟨3, ![12, 10400, 128]⟩
abbrev S128x512 : Shape := ⟨2, ![128, 512]⟩
abbrev S10400x24 : Shape := ⟨2, ![10400, 24]⟩
abbrev S325x32x24 : Shape := ⟨3, ![325, 32, 24]⟩
abbrev S32x325x24 : Shape := ⟨3, ![32, 325, 24]⟩
abbrev S2600x1 : Shape := ⟨2, ![2600, 1]⟩
abbrev S2600x325 : Shape := ⟨2, ![2600, 325]⟩
abbrev S325 : Shape := ⟨1, ![325]⟩
abbrev S1x325 : Shape := ⟨2, ![1, 325]⟩
abbrev S1x325x64 : Shape := ⟨3, ![1, 325, 64]⟩
abbrev S1x325x4096 : Shape := ⟨3, ![1, 325, 4096]⟩
abbrev S325x64 : Shape := ⟨2, ![325, 64]⟩
abbrev S325x4096 : Shape := ⟨2, ![325, 4096]⟩
abbrev S325x128 : Shape := ⟨2, ![325, 128]⟩
abbrev S12x2080x128 : Shape := ⟨3, ![12, 2080, 128]⟩
abbrev S2080x24 : Shape := ⟨2, ![2080, 24]⟩
abbrev S1x512 : Shape := ⟨2, ![1, 512]⟩
abbrev S2080x128 : Shape := ⟨2, ![2080, 128]⟩
abbrev S1x2080x128 : Shape := ⟨3, ![1, 2080, 128]⟩
abbrev S2080x512 : Shape := ⟨2, ![2080, 512]⟩
abbrev S1x24 : Shape := ⟨2, ![1, 24]⟩

abbrev nBuf : Space → Nat
  | .hbm => 56
  | .vmem => 27
  | .smem => 0
  | _ => 0

abbrev bufTy : (tb : Table) → Fin (tcTables nBuf tb) → BufTy
  | .hbm, ⟨0, _⟩ => ⟨S32x12x325x2, .f32⟩
  | .hbm, ⟨1, _⟩ => ⟨S2x2600, .i32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S512x128, .f32⟩
  | .hbm, ⟨11, _⟩ => ⟨S512x128, .f32⟩
  | .hbm, ⟨12, _⟩ => ⟨S512, .f32⟩
  | .hbm, ⟨13, _⟩ => ⟨S512, .f32⟩
  | .hbm, ⟨14, _⟩ => ⟨S512x128, .f32⟩
  | .hbm, ⟨15, _⟩ => ⟨S512x128, .f32⟩
  | .hbm, ⟨16, _⟩ => ⟨S512, .f32⟩
  | .hbm, ⟨17, _⟩ => ⟨S512, .f32⟩
  | .hbm, ⟨18, _⟩ => ⟨S128x24, .f32⟩
  | .hbm, ⟨19, _⟩ => ⟨S24, .f32⟩
  | .hbm, ⟨20, _⟩ => ⟨S2600x2, .i32⟩
  | .hbm, ⟨21, _⟩ => ⟨S325x325, .f32⟩
  | .hbm, ⟨22, _⟩ => ⟨S12x325x32x2, .f32⟩
  | .hbm, ⟨23, _⟩ => ⟨S12x325x64, .f32⟩
  | .hbm, ⟨24, _⟩ => ⟨S32x32, .i32⟩
  | .hbm, ⟨25, _⟩ => ⟨S32x32, .i32⟩
  | .hbm, ⟨26, _⟩ => ⟨S_, .i32⟩
  | .hbm, ⟨27, _⟩ => ⟨S32x32, .i32⟩
  | .hbm, ⟨28, _⟩ => ⟨S32x32, .i32⟩
  | .hbm, ⟨29, _⟩ => ⟨S32x32, .i1⟩
  | .hbm, ⟨30, _⟩ => ⟨S32x32, .f32⟩
  | .hbm, ⟨31, _⟩ => ⟨S32x1x32x1, .f32⟩
  | .hbm, ⟨32, _⟩ => ⟨S1x2x1x128, .f32⟩
  | .hbm, ⟨33, _⟩ => ⟨S32x2x32x128, .f32⟩
  | .hbm, ⟨34, _⟩ => ⟨S32x2x32x128, .f32⟩
  | .hbm, ⟨35, _⟩ => ⟨S32x2x32x128, .f32⟩
  | .hbm, ⟨36, _⟩ => ⟨S64x4096, .f32⟩
  | .hbm, ⟨37, _⟩ => ⟨S1x128, .f32⟩
  | .hbm, ⟨38, _⟩ => ⟨S32x128, .f32⟩
  | .hbm, ⟨39, _⟩ => ⟨S4096, .f32⟩
  | .hbm, ⟨40, _⟩ => ⟨S1x4096, .f32⟩
  | .hbm, ⟨41, _⟩ => ⟨S1x128, .f32⟩
  | .hbm, ⟨42, _⟩ => ⟨S32x128, .f32⟩
  | .hbm, ⟨43, _⟩ => ⟨S4096, .f32⟩
  | .hbm, ⟨44, _⟩ => ⟨S1x4096, .f32⟩
  | .hbm, ⟨45, _⟩ => ⟨S12x325x4096, .f32⟩
  | .hbm, ⟨46, _⟩ => ⟨S12x10400x128, .f32⟩
  | .hbm, ⟨47, _⟩ => ⟨S128x512, .f32⟩
  | .hbm, ⟨48, _⟩ => ⟨S128x512, .f32⟩
  | .hbm, ⟨49, _⟩ => ⟨S512, .f32⟩
  | .hbm, ⟨50, _⟩ => ⟨S128x512, .f32⟩
  | .hbm, ⟨51, _⟩ => ⟨S128x512, .f32⟩
  | .hbm, ⟨52, _⟩ => ⟨S512, .f32⟩
  | .hbm, ⟨53, _⟩ => ⟨S10400x24, .f32⟩
  | .hbm, ⟨54, _⟩ => ⟨S325x32x24, .f32⟩
  | .hbm, ⟨55, _⟩ => ⟨S32x325x24, .f32⟩
  | .local _ .vmem, ⟨0, _⟩ => ⟨S2600x2, .i32⟩
  | .local _ .vmem, ⟨1, _⟩ => ⟨S325x325, .f32⟩
  | .local _ .vmem, ⟨2, _⟩ => ⟨S1x325x64, .f32⟩
  | .local _ .vmem, ⟨3, _⟩ => ⟨S1x325x64, .f32⟩
  | .local _ .vmem, ⟨4, _⟩ => ⟨S325x325, .f32⟩
  | .local _ .vmem, ⟨5, _⟩ => ⟨S64x4096, .f32⟩
  | .local _ .vmem, ⟨6, _⟩ => ⟨S1x4096, .f32⟩
  | .local _ .vmem, ⟨7, _⟩ => ⟨S128x128, .f32⟩
  | .local _ .vmem, ⟨8, _⟩ => ⟨S1x4096, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S1x325x4096, .f32⟩
  | .local _ .vmem, ⟨14, _⟩ => ⟨S1x325x4096, .f32⟩
  | .local _ .vmem, ⟨15, _⟩ => ⟨S12x2080x128, .f32⟩
  | .local _ .vmem, ⟨16, _⟩ => ⟨S12x2080x128, .f32⟩
  | .local _ .vmem, ⟨17, _⟩ => ⟨S128x512, .f32⟩
  | .local _ .vmem, ⟨18, _⟩ => ⟨S128x512, .f32⟩
  | .local _ .vmem, ⟨19, _⟩ => ⟨S512, .f32⟩
  | .local _ .vmem, ⟨20, _⟩ => ⟨S128x512, .f32⟩
  | .local _ .vmem, ⟨21, _⟩ => ⟨S128x512, .f32⟩
  | .local _ .vmem, ⟨22, _⟩ => ⟨S512, .f32⟩
  | .local _ .vmem, ⟨23, _⟩ => ⟨S128x24, .f32⟩
  | .local _ .vmem, ⟨24, _⟩ => ⟨S24, .f32⟩
  | .local _ .vmem, ⟨25, _⟩ => ⟨S2080x24, .f32⟩
  | .local _ .vmem, ⟨26, _⟩ => ⟨S2080x24, .f32⟩
  | _, _ => ⟨S32x12x325x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_v0 : Ref sig .tc := ⟨.hbm, 55, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg10_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem10_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26

abbrev nD : Nat := 1
abbrev τ : Topo := Topo.v7x

variable {F : FTy → Type} [FloatOps F]

abbrev grid0 : Pipeline.Grid := .none

abbrev stage0_0 : Fin 1 → Memref sig .tc .vmem S2600x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S325x325 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x325x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S325x325 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x325x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![5], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12x2080x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x24 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S24 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2080x24 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S32x12x325x2 : Shape := ⟨4, ![32, 12, 325, 2]⟩
abbrev S2x2600 : Shape := ⟨2, ![2, 2600]⟩
abbrev S2x128 : Shape := ⟨2, ![2, 128]⟩
abbrev S128 : Shape := ⟨1, ![128]⟩
abbrev S128x128 : Shape := ⟨2, ![128, 128]⟩
abbrev S512x128 : Shape := ⟨2, ![512, 128]⟩
abbrev S512 : Shape := ⟨1, ![512]⟩
abbrev S128x24 : Shape := ⟨2, ![128, 24]⟩
abbrev S24 : Shape := ⟨1, ![24]⟩
abbrev S32 : Shape := ⟨1, ![32]⟩
abbrev S_ : Shape := ⟨0, ![]⟩
abbrev S1x2600 : Shape := ⟨2, ![1, 2600]⟩
abbrev S2600 : Shape := ⟨1, ![2600]⟩
abbrev S32x1 : Shape := ⟨2, ![32, 1]⟩
abbrev S32x2600 : Shape := ⟨2, ![32, 2600]⟩
abbrev S83200 : Shape := ⟨1, ![83200]⟩
abbrev S10400 : Shape := ⟨1, ![10400]⟩
abbrev S93600 : Shape := ⟨1, ![93600]⟩
abbrev S93600x1 : Shape := ⟨2, ![93600, 1]⟩
abbrev S32x325x12x2 : Shape := ⟨4, ![32, 325, 12, 2]⟩
abbrev S10400x12x2 : Shape := ⟨3, ![10400, 12, 2]⟩
abbrev S10400x12x128 : Shape := ⟨3, ![10400, 12, 128]⟩
abbrev S93600x12x128 : Shape := ⟨3, ![93600, 12, 128]⟩
abbrev S93600x1x1 : Shape := ⟨3, ![93600, 1, 1]⟩
abbrev S1x1x128 : Shape := ⟨3, ![1, 1, 128]⟩
abbrev S12x128 : Shape := ⟨2, ![12, 128]⟩
abbrev S1x12x128 : Shape := ⟨3, ![1, 12, 128]⟩
abbrev S12x10400x128 : Shape := ⟨3, ![12, 10400, 128]⟩
abbrev S10400x128 : Shape := ⟨2, ![10400, 128]⟩
abbrev S1x10400x128 : Shape := ⟨3, ![1, 10400, 128]⟩
abbrev S128x512 : Shape := ⟨2, ![128, 512]⟩
abbrev S10400x512 : Shape := ⟨2, ![10400, 512]⟩
abbrev S1x512 : Shape := ⟨2, ![1, 512]⟩
abbrev S10400x24 : Shape := ⟨2, ![10400, 24]⟩
abbrev S1x24 : Shape := ⟨2, ![1, 24]⟩
abbrev S32x325x24 : Shape := ⟨3, ![32, 325, 24]⟩

abbrev nBuf : Space → Nat
  | .hbm => 336
  | .vmem => 0
  | .smem => 0
  | _ => 0

abbrev hbmTy0_0 (i : Nat) : BufTy := match i % 128 with
  | 0 => ⟨S32x12x325x2, .f32⟩
  | 1 => ⟨S2x2600, .i32⟩
  | 2 => ⟨S2x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S512x128, .f32⟩
  | 11 => ⟨S512x128, .f32⟩
  | 12 => ⟨S512, .f32⟩
  | 13 => ⟨S512, .f32⟩
  | 14 => ⟨S512x128, .f32⟩
  | 15 => ⟨S512x128, .f32⟩
  | 16 => ⟨S512, .f32⟩
  | 17 => ⟨S512, .f32⟩
  | 18 => ⟨S128x24, .f32⟩
  | 19 => ⟨S24, .f32⟩
  | 20 => ⟨S32, .i32⟩
  | 21 => ⟨S_, .i32⟩
  | 22 => ⟨S32, .i32⟩
  | 23 => ⟨S32, .i32⟩
  | 24 => ⟨S1x2600, .i32⟩
  | 25 => ⟨S2600, .i32⟩
  | 26 => ⟨S1x2600, .i32⟩
  | 27 => ⟨S32x1, .i32⟩
  | 28 => ⟨S32x2600, .i32⟩
  | 29 => ⟨S32x2600, .i32⟩
  | 30 => ⟨S32x2600, .i32⟩
  | 31 => ⟨S83200, .i32⟩
  | 32 => ⟨S1x2600, .i32⟩
  | 33 => ⟨S2600, .i32⟩
  | 34 => ⟨S1x2600, .i32⟩
  | 35 => ⟨S32x1, .i32⟩
  | 36 => ⟨S32x2600, .i32⟩
  | 37 => ⟨S32x2600, .i32⟩
  | 38 => ⟨S32x2600, .i32⟩
  | 39 => ⟨S83200, .i32⟩
  | 40 => ⟨S10400, .i32⟩
  | 41 => ⟨S93600, .i32⟩
  | 42 => ⟨S93600, .i32⟩
  | 43 => ⟨S_, .f32⟩
  | 44 => ⟨S93600, .f32⟩
  | 45 => ⟨S_, .f32⟩
  | 46 => ⟨S10400, .f32⟩
  | 47 => ⟨S93600x1, .i32⟩
  | 48 => ⟨S10400, .f32⟩
  | 49 => ⟨S_, .f32⟩
  | 50 => ⟨S10400, .f32⟩
  | 51 => ⟨S10400, .i1⟩
  | 52 => ⟨S10400, .f32⟩
  | 53 => ⟨S_, .f32⟩
  | 54 => ⟨S10400, .f32⟩
  | 55 => ⟨S10400, .f32⟩
  | 56 => ⟨S_, .f32⟩
  | 57 => ⟨S_, .f32⟩
  | 58 => ⟨S10400, .f32⟩
  | 59 => ⟨S10400, .f32⟩
  | 60 => ⟨S_, .i32⟩
  | 61 => ⟨S93600, .i32⟩
  | 62 => ⟨S93600, .i1⟩
  | 63 => ⟨S_, .i32⟩
  | 64 => ⟨S93600, .i32⟩
  | 65 => ⟨S93600, .i32⟩
  | 66 => ⟨S93600, .i32⟩
  | 67 => ⟨S93600x1, .i32⟩
  | 68 => ⟨S93600, .f32⟩
  | 69 => ⟨S_, .i32⟩
  | 70 => ⟨S93600, .i32⟩
  | 71 => ⟨S93600, .i1⟩
  | 72 => ⟨S_, .i32⟩
  | 73 => ⟨S93600, .i32⟩
  | 74 => ⟨S93600, .i32⟩
  | 75 => ⟨S93600, .i32⟩
  | 76 => ⟨S93600x1, .i32⟩
  | 77 => ⟨S93600, .f32⟩
  | 78 => ⟨S93600, .f32⟩
  | 79 => ⟨S32x325x12x2, .f32⟩
  | 80 => ⟨S10400x12x2, .f32⟩
  | 81 => ⟨S10400x12x128, .f32⟩
  | 82 => ⟨S_, .i32⟩
  | 83 => ⟨S93600, .i32⟩
  | 84 => ⟨S93600, .i1⟩
  | 85 => ⟨S_, .i32⟩
  | 86 => ⟨S93600, .i32⟩
  | 87 => ⟨S93600, .i32⟩
  | 88 => ⟨S93600, .i32⟩
  | 89 => ⟨S93600x1, .i32⟩
  | 90 => ⟨S93600x12x128, .f32⟩
  | 91 => ⟨S93600x1x1, .f32⟩
  | 92 => ⟨S93600x12x128, .f32⟩
  | 93 => ⟨S93600x12x128, .f32⟩
  | 94 => ⟨S_, .f32⟩
  | 95 => ⟨S10400x12x128, .f32⟩
  | 96 => ⟨S93600x1, .i32⟩
  | 97 => ⟨S10400x12x128, .f32⟩
  | 98 => ⟨S1x1x128, .f32⟩
  | 99 => ⟨S10400x12x128, .f32⟩
  | 100 => ⟨S10400x12x128, .f32⟩
  | 101 => ⟨S_, .f32⟩
  | 102 => ⟨S12x128, .f32⟩
  | 103 => ⟨S_, .f32⟩
  | 104 => ⟨S12x128, .f32⟩
  | 105 => ⟨S12x128, .f32⟩
  | 106 => ⟨S_, .i32⟩
  | 107 => ⟨S_, .f32⟩
  | 108 => ⟨S12x128, .f32⟩
  | 109 => ⟨S1x12x128, .f32⟩
  | 110 => ⟨S_, .f32⟩
  | 111 => ⟨S1x12x128, .f32⟩
  | 112 => ⟨S1x12x128, .f32⟩
  | 113 => ⟨S10400x12x128, .f32⟩
  | 114 => ⟨S10400x12x128, .f32⟩
  | 115 => ⟨S10400x12x128, .f32⟩
  | 116 => ⟨S_, .f32⟩
  | 117 => ⟨S_, .f32⟩
  | 118 => ⟨S_, .f32⟩
  | 119 => ⟨S_, .f32⟩
  | 120 => ⟨S12x128, .f32⟩
  | 121 => ⟨S12x128, .f32⟩
  | 122 => ⟨S12x128, .f32⟩
  | 123 => ⟨S_, .f32⟩
  | 124 => ⟨S_, .i1⟩
  | 125 => ⟨S_, .f32⟩
  | 126 => ⟨S_, .f32⟩
  | 127 => ⟨S12x128, .f32⟩
  | _ => ⟨S32x12x325x2, .f32⟩

abbrev hbmTy0_1 (i : Nat) : BufTy := match i % 128 with
  | 0 => ⟨S12x128, .f32⟩
  | 1 => ⟨S1x12x128, .f32⟩
  | 2 => ⟨S10400x12x128, .f32⟩
  | 3 => ⟨S10400x12x128, .f32⟩
  | 4 => ⟨S_, .f32⟩
  | 5 => ⟨S12x128, .f32⟩
  | 6 => ⟨S12x128, .f32⟩
  | 7 => ⟨S12x128, .f32⟩
  | 8 => ⟨S1x12x128, .f32⟩
  | 9 => ⟨S10400x12x128, .f32⟩
  | 10 => ⟨S10400x12x128, .f32⟩
  | 11 => ⟨S1x1x128, .f32⟩
  | 12 => ⟨S10400x12x128, .f32⟩
  | 13 => ⟨S10400x12x128, .f32⟩
  | 14 => ⟨S1x1x128, .f32⟩
  | 15 => ⟨S10400x12x128, .f32⟩
  | 16 => ⟨S10400x12x128, .f32⟩
  | 17 => ⟨S_, .f32⟩
  | 18 => ⟨S10400x12x128, .f32⟩
  | 19 => ⟨S10400x12x128, .f32⟩
  | 20 => ⟨S10400x12x128, .f32⟩
  | 21 => ⟨S_, .i32⟩
  | 22 => ⟨S93600, .i32⟩
  | 23 => ⟨S93600, .i1⟩
  | 24 => ⟨S_, .i32⟩
  | 25 => ⟨S93600, .i32⟩
  | 26 => ⟨S93600, .i32⟩
  | 27 => ⟨S93600, .i32⟩
  | 28 => ⟨S93600x1, .i32⟩
  | 29 => ⟨S93600x12x128, .f32⟩
  | 30 => ⟨S93600x1x1, .f32⟩
  | 31 => ⟨S93600x12x128, .f32⟩
  | 32 => ⟨S93600x12x128, .f32⟩
  | 33 => ⟨S_, .f32⟩
  | 34 => ⟨S10400x12x128, .f32⟩
  | 35 => ⟨S93600x1, .i32⟩
  | 36 => ⟨S10400x12x128, .f32⟩
  | 37 => ⟨S1x1x128, .f32⟩
  | 38 => ⟨S10400x12x128, .f32⟩
  | 39 => ⟨S10400x12x128, .f32⟩
  | 40 => ⟨S_, .f32⟩
  | 41 => ⟨S12x128, .f32⟩
  | 42 => ⟨S_, .f32⟩
  | 43 => ⟨S12x128, .f32⟩
  | 44 => ⟨S12x128, .f32⟩
  | 45 => ⟨S_, .i32⟩
  | 46 => ⟨S_, .f32⟩
  | 47 => ⟨S12x128, .f32⟩
  | 48 => ⟨S1x12x128, .f32⟩
  | 49 => ⟨S_, .f32⟩
  | 50 => ⟨S1x12x128, .f32⟩
  | 51 => ⟨S1x12x128, .f32⟩
  | 52 => ⟨S10400x12x128, .f32⟩
  | 53 => ⟨S10400x12x128, .f32⟩
  | 54 => ⟨S10400x12x128, .f32⟩
  | 55 => ⟨S_, .f32⟩
  | 56 => ⟨S_, .f32⟩
  | 57 => ⟨S_, .f32⟩
  | 58 => ⟨S_, .f32⟩
  | 59 => ⟨S12x128, .f32⟩
  | 60 => ⟨S12x128, .f32⟩
  | 61 => ⟨S12x128, .f32⟩
  | 62 => ⟨S_, .f32⟩
  | 63 => ⟨S_, .i1⟩
  | 64 => ⟨S_, .f32⟩
  | 65 => ⟨S_, .f32⟩
  | 66 => ⟨S12x128, .f32⟩
  | 67 => ⟨S12x128, .f32⟩
  | 68 => ⟨S1x12x128, .f32⟩
  | 69 => ⟨S10400x12x128, .f32⟩
  | 70 => ⟨S10400x12x128, .f32⟩
  | 71 => ⟨S_, .f32⟩
  | 72 => ⟨S12x128, .f32⟩
  | 73 => ⟨S12x128, .f32⟩
  | 74 => ⟨S12x128, .f32⟩
  | 75 => ⟨S1x12x128, .f32⟩
  | 76 => ⟨S10400x12x128, .f32⟩
  | 77 => ⟨S10400x12x128, .f32⟩
  | 78 => ⟨S1x1x128, .f32⟩
  | 79 => ⟨S10400x12x128, .f32⟩
  | 80 => ⟨S10400x12x128, .f32⟩
  | 81 => ⟨S1x1x128, .f32⟩
  | 82 => ⟨S10400x12x128, .f32⟩
  | 83 => ⟨S10400x12x128, .f32⟩
  | 84 => ⟨S_, .f32⟩
  | 85 => ⟨S10400x12x128, .f32⟩
  | 86 => ⟨S10400x12x128, .f32⟩
  | 87 => ⟨S12x10400x128, .f32⟩
  | 88 => ⟨S_, .f32⟩
  | 89 => ⟨S10400x128, .f32⟩
  | 90 => ⟨S_, .i32⟩
  | 91 => ⟨S12x10400x128, .f32⟩
  | 92 => ⟨S512x128, .f32⟩
  | 93 => ⟨S512x128, .f32⟩
  | 94 => ⟨S512, .f32⟩
  | 95 => ⟨S512, .f32⟩
  | 96 => ⟨S512x128, .f32⟩
  | 97 => ⟨S512x128, .f32⟩
  | 98 => ⟨S512, .f32⟩
  | 99 => ⟨S512, .f32⟩
  | 100 => ⟨S_, .i32⟩
  | 101 => ⟨S10400x128, .f32⟩
  | 102 => ⟨S10400x128, .f32⟩
  | 103 => ⟨S10400x128, .f32⟩
  | 104 => ⟨S10400x128, .f32⟩
  | 105 => ⟨S_, .i32⟩
  | 106 => ⟨S_, .i1⟩
  | 107 => ⟨S_, .i32⟩
  | 108 => ⟨S_, .i32⟩
  | 109 => ⟨S1x10400x128, .f32⟩
  | 110 => ⟨S10400x128, .f32⟩
  | 111 => ⟨S128x512, .f32⟩
  | 112 => ⟨S10400x512, .f32⟩
  | 113 => ⟨S128x512, .f32⟩
  | 114 => ⟨S10400x512, .f32⟩
  | 115 => ⟨S10400x512, .f32⟩
  | 116 => ⟨S1x512, .f32⟩
  | 117 => ⟨S10400x512, .f32⟩
  | 118 => ⟨S10400x512, .f32⟩
  | 119 => ⟨S1x512, .f32⟩
  | 120 => ⟨S10400x512, .f32⟩
  | 121 => ⟨S10400x512, .f32⟩
  | 122 => ⟨S10400x128, .f32⟩
  | 123 => ⟨S10400x128, .f32⟩
  | 124 => ⟨S10400x128, .f32⟩
  | 125 => ⟨S10400x128, .f32⟩
  | 126 => ⟨S10400x128, .f32⟩
  | 127 => ⟨S10400x128, .f32⟩
  | _ => ⟨S32x12x325x2, .f32⟩

abbrev hbmTy0_2 (i : Nat) : BufTy := match i % 128 with
  | 0 => ⟨S_, .f32⟩
  | 1 => ⟨S10400x128, .f32⟩
  | 2 => ⟨S10400x128, .f32⟩
  | 3 => ⟨S_, .f32⟩
  | 4 => ⟨S10400x128, .f32⟩
  | 5 => ⟨S10400x128, .f32⟩
  | 6 => ⟨S10400x128, .f32⟩
  | 7 => ⟨S10400x128, .f32⟩
  | 8 => ⟨S_, .f32⟩
  | 9 => ⟨S10400x128, .f32⟩
  | 10 => ⟨S10400x128, .f32⟩
  | 11 => ⟨S_, .f32⟩
  | 12 => ⟨S10400x128, .f32⟩
  | 13 => ⟨S10400x128, .f32⟩
  | 14 => ⟨S10400x128, .f32⟩
  | 15 => ⟨S10400x128, .f32⟩
  | 16 => ⟨S10400x128, .f32⟩
  | 17 => ⟨S_, .f32⟩
  | 18 => ⟨S10400x128, .f32⟩
  | 19 => ⟨S10400x128, .f32⟩
  | 20 => ⟨S_, .f32⟩
  | 21 => ⟨S10400x128, .f32⟩
  | 22 => ⟨S10400x128, .f32⟩
  | 23 => ⟨S10400x128, .f32⟩
  | 24 => ⟨S10400x128, .f32⟩
  | 25 => ⟨S10400x128, .f32⟩
  | 26 => ⟨S10400x128, .f32⟩
  | 27 => ⟨S10400x128, .f32⟩
  | 28 => ⟨S128x512, .f32⟩
  | 29 => ⟨S10400x512, .f32⟩
  | 30 => ⟨S128x512, .f32⟩
  | 31 => ⟨S10400x512, .f32⟩
  | 32 => ⟨S10400x512, .f32⟩
  | 33 => ⟨S1x512, .f32⟩
  | 34 => ⟨S10400x512, .f32⟩
  | 35 => ⟨S10400x512, .f32⟩
  | 36 => ⟨S1x512, .f32⟩
  | 37 => ⟨S10400x512, .f32⟩
  | 38 => ⟨S10400x512, .f32⟩
  | 39 => ⟨S10400x128, .f32⟩
  | 40 => ⟨S10400x128, .f32⟩
  | 41 => ⟨S10400x128, .f32⟩
  | 42 => ⟨S10400x128, .f32⟩
  | 43 => ⟨S10400x128, .f32⟩
  | 44 => ⟨S10400x128, .f32⟩
  | 45 => ⟨S_, .f32⟩
  | 46 => ⟨S10400x128, .f32⟩
  | 47 => ⟨S10400x128, .f32⟩
  | 48 => ⟨S_, .f32⟩
  | 49 => ⟨S10400x128, .f32⟩
  | 50 => ⟨S10400x128, .f32⟩
  | 51 => ⟨S10400x128, .f32⟩
  | 52 => ⟨S10400x128, .f32⟩
  | 53 => ⟨S_, .f32⟩
  | 54 => ⟨S10400x128, .f32⟩
  | 55 => ⟨S10400x128, .f32⟩
  | 56 => ⟨S_, .f32⟩
  | 57 => ⟨S10400x128, .f32⟩
  | 58 => ⟨S10400x128, .f32⟩
  | 59 => ⟨S10400x128, .f32⟩
  | 60 => ⟨S10400x128, .f32⟩
  | 61 => ⟨S10400x128, .f32⟩
  | 62 => ⟨S_, .f32⟩
  | 63 => ⟨S10400x128, .f32⟩
  | 64 => ⟨S10400x128, .f32⟩
  | 65 => ⟨S_, .f32⟩
  | 66 => ⟨S10400x128, .f32⟩
  | 67 => ⟨S10400x128, .f32⟩
  | 68 => ⟨S10400x128, .f32⟩
  | 69 => ⟨S10400x128, .f32⟩
  | 70 => ⟨S10400x128, .f32⟩
  | 71 => ⟨S10400x128, .f32⟩
  | 72 => ⟨S10400x128, .f32⟩
  | 73 => ⟨S_, .i32⟩
  | 74 => ⟨S_, .i32⟩
  | 75 => ⟨S10400x24, .f32⟩
  | 76 => ⟨S1x24, .f32⟩
  | 77 => ⟨S10400x24, .f32⟩
  | 78 => ⟨S10400x24, .f32⟩
  | 79 => ⟨S32x325x24, .f32⟩
  | _ => ⟨S32x12x325x2, .f32⟩

abbrev hbmTy (i : Nat) : BufTy := match i / 128 with
  | 0 => hbmTy0_0 i
  | 1 => hbmTy0_1 i
  | 2 => hbmTy0_2 i
  | _ => ⟨S32x12x325x2, .f32⟩

abbrev bufTy : (tb : Table) → Fin (tcTables nBuf tb) → BufTy
  | .hbm, ⟨i, _⟩ => hbmTy i
  | _, _ => ⟨S32x12x325x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_v31 : Ref sig .tc := ⟨.hbm, 59, rfl⟩
abbrev main_c_4 : Ref sig .tc := ⟨.hbm, 60, rfl⟩
abbrev main_v32 : Ref sig .tc := ⟨.hbm, 61, rfl⟩
abbrev main_v33 : Ref sig .tc := ⟨.hbm, 62, rfl⟩
abbrev main_c_5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_6 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_8 : Ref sig .tc := ⟨.hbm, 82, rfl⟩
abbrev main_v50 : Ref sig .tc := ⟨.hbm, 83, rfl⟩
abbrev main_v51 : Ref sig .tc := ⟨.hbm, 84, rfl⟩
abbrev main_c_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_cst_1 : Ref sig .tc := ⟨.hbm, 117, rfl⟩
abbrev main_call1_v8 : Ref sig .tc := ⟨.hbm, 118, rfl⟩
abbrev main_call1_cst_2 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_cst_3 : Ref sig .tc := ⟨.hbm, 123, rfl⟩
abbrev main_call1_v12 : Ref sig .tc := ⟨.hbm, 124, rfl⟩
abbrev main_call1_cst_4 : Ref sig .tc := ⟨.hbm, 125, rfl⟩
abbrev main_call1_call0_v0 : Ref sig .tc := ⟨.hbm, 126, rfl⟩
abbrev main_call1_call0_v1 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_14 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_call2_cst : Ref sig .tc := ⟨.hbm, 145, rfl⟩
abbrev main_call2_v0 : Ref sig .tc := ⟨.hbm, 146, rfl⟩
abbrev main_v85 : Ref sig .tc := ⟨.hbm, 147, rfl⟩
abbrev main_v86 : Ref sig .tc := ⟨.hbm, 148, rfl⟩
abbrev main_c_15 : Ref sig .tc := ⟨.hbm, 149, rfl⟩
abbrev main_v87 : Ref sig .tc := ⟨.hbm, 150, rfl⟩
abbrev main_v88 : Ref sig .tc := ⟨.hbm, 151, rfl⟩
abbrev main_c_16 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_17 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_18 : Ref sig .tc := ⟨.hbm, 168, rfl⟩
abbrev main_v103 : Ref sig .tc := ⟨.hbm, 169, rfl⟩
abbrev main_cst_19 : Ref sig .tc := ⟨.hbm, 170, rfl⟩
abbrev main_v104 : Ref sig .tc := ⟨.hbm, 171, rfl⟩
abbrev main_v105 : Ref sig .tc := ⟨.hbm, 172, rfl⟩
abbrev main_c_20 : Ref sig .tc := ⟨.hbm, 173, rfl⟩
abbrev main_call3_cst : Ref sig .tc := ⟨.hbm, 174, rfl⟩
abbrev main_call3_v0 : Ref sig .tc := ⟨.hbm, 175, rfl⟩
abbrev main_call3_v1 : Ref sig .tc := ⟨.hbm, 176, rfl⟩
abbrev main_call3_cst_0 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_call3_v5 : Ref sig .tc := ⟨.hbm, 181, rfl⟩
abbrev main_call3_v6 : Ref sig .tc := ⟨.hbm, 182, rfl⟩
abbrev main_call3_v7 : Ref sig .tc := ⟨.hbm, 183, rfl⟩
abbrev main_call3_cst_1 : Ref sig .tc := ⟨.hbm, 184, rfl⟩
abbrev main_call3_v8 : Ref sig .tc := ⟨.hbm, 185, rfl⟩
abbrev main_call3_cst_2 : Ref sig .tc := ⟨.hbm, 186, rfl⟩
abbrev main_call3_v9 : Ref sig .tc := ⟨.hbm, 187, rfl⟩
abbrev main_call3_v10 : Ref sig .tc := ⟨.hbm, 188, rfl⟩
abbrev main_call3_v11 : Ref sig .tc := ⟨.hbm, 189, rfl⟩
abbrev main_call3_cst_3 : Ref sig .tc := ⟨.hbm, 190, rfl⟩
abbrev main_call3_v12 : Ref sig .tc := ⟨.hbm, 191, rfl⟩
abbrev main_call3_cst_4 : Ref sig .tc := ⟨.hbm, 192, rfl⟩
abbrev main_call3_call0_v0 : Ref sig .tc := ⟨.hbm, 193, rfl⟩
abbrev main_call3_call0_v1 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_cst_21 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_call4_cst : Ref sig .tc := ⟨.hbm, 212, rfl⟩
abbrev main_call4_v0 : Ref sig .tc := ⟨.hbm, 213, rfl⟩
abbrev main_v122 : Ref sig .tc := ⟨.hbm, 214, rfl⟩
abbrev main_v123 : Ref sig .tc := ⟨.hbm, 215, rfl⟩
abbrev main_cst_22 : Ref sig .tc := ⟨.hbm, 216, rfl⟩
abbrev main_v124 : Ref sig .tc := ⟨.hbm, 217, rfl⟩
abbrev main_c_23 : Ref sig .tc := ⟨.hbm, 218, rfl⟩
abbrev main_v125_0 : Ref sig .tc := ⟨.hbm, 219, rfl⟩
abbrev main_v125_1 : Ref sig .tc := ⟨.hbm, 220, rfl⟩
abbrev main_v125_2 : Ref sig .tc := ⟨.hbm, 221, rfl⟩
abbrev main_v125_3 : Ref sig .tc := ⟨.hbm, 222, rfl⟩
abbrev main_v125_4 : Ref sig .tc := ⟨.hbm, 223, rfl⟩
abbrev main_v125_5 : Ref sig .tc := ⟨.hbm, 224, rfl⟩
abbrev main_v125_6 : Ref sig .tc := ⟨.hbm, 225, rfl⟩
abbrev main_v125_7 : Ref sig .tc := ⟨.hbm, 226, rfl⟩
abbrev main_v125_8 : Ref sig .tc := ⟨.hbm, 227, rfl⟩
abbrev main_v125_9 : Ref sig .tc := ⟨.hbm, 228, rfl⟩
abbrev main_v125_10 : Ref sig .tc := ⟨.hbm, 229, rfl⟩
abbrev main_v125_11 : Ref sig .tc := ⟨.hbm, 230, rfl⟩
abbrev main_v125_12 : Ref sig .tc := ⟨.hbm, 231, rfl⟩
abbrev main_v125_13 : Ref sig .tc := ⟨.hbm, 232, rfl⟩
abbrev main_while0c_c_37 : Ref sig .tc := ⟨.hbm, 233, rfl⟩
abbrev main_while0c_v131 : Ref sig .tc := ⟨.hbm, 234, rfl⟩
abbrev main_while0b_call5_c : Ref sig .tc := ⟨.hbm, 235, rfl⟩
abbrev main_while0b_call5_c_0 : Ref sig .tc := ⟨.hbm, 236, rfl⟩
abbrev main_while0b_call5_v0 : Ref sig .tc := ⟨.hbm, 237, rfl⟩
abbrev main_while0b_v131 : Ref sig .tc := ⟨.hbm, 238, rfl⟩
abbrev main_while0b_v132 : Ref sig .tc := ⟨.hbm, 239, rfl⟩
abbrev main_while0b_v133 : Ref sig .tc := ⟨.hbm, 240, rfl⟩
abbrev main_while0b_v134 : Ref sig .tc := ⟨.hbm, 241, rfl⟩
abbrev main_while0b_v135 : Ref sig .tc := ⟨.hbm, 242, rfl⟩
abbrev main_while0b_v136 : Ref sig .tc := ⟨.hbm, 243, rfl⟩
abbrev main_while0b_v137 : Ref sig .tc := ⟨.hbm, 244, rfl⟩
abbrev main_while0b_v138 : Ref sig .tc := ⟨.hbm, 245, rfl⟩
abbrev main_while0b_v139 : Ref sig .tc := ⟨.hbm, 246, rfl⟩
abbrev main_while0b_v140 : Ref sig .tc := ⟨.hbm, 247, rfl⟩
abbrev main_while0b_v141 : Ref sig .tc := ⟨.hbm, 248, rfl⟩
abbrev main_while0b_v142 : Ref sig .tc := ⟨.hbm, 249, rfl⟩
abbrev main_while0b_v143 : Ref sig .tc := ⟨.hbm, 250, rfl⟩
abbrev main_while0b_v144 : Ref sig .tc := ⟨.hbm, 251, rfl⟩
abbrev main_while0b_v145 : Ref sig .tc := ⟨.hbm, 252, rfl⟩
abbrev main_while0b_v146 : Ref sig .tc := ⟨.hbm, 253, rfl⟩
abbrev main_while0b_v147 : Ref sig .tc := ⟨.hbm, 254, rfl⟩
abbrev main_while0b_v148 : Ref sig .tc := ⟨.hbm, 255, rfl⟩
abbrev main_while0b_cst_37 : Ref sig .tc := ⟨.hbm, 256, rfl⟩
abbrev main_while0b_v149 : Ref sig .tc := ⟨.hbm, 257, rfl⟩
abbrev main_while0b_v150 : Ref sig .tc := ⟨.hbm, 258, rfl⟩
abbrev main_while0b_cst_38 : Ref sig .tc := ⟨.hbm, 259, rfl⟩
abbrev main_while0b_v151 : Ref sig .tc := ⟨.hbm, 260, rfl⟩
abbrev main_while0b_v152 : Ref sig .tc := ⟨.hbm, 261, rfl⟩
abbrev main_while0b_v153 : Ref sig .tc := ⟨.hbm, 262, rfl⟩
abbrev main_while0b_v154 : Ref sig .tc := ⟨.hbm, 263, rfl⟩
abbrev main_while0b_cst_39 : Ref sig .tc := ⟨.hbm, 264, rfl⟩
abbrev main_while0b_v155 : Ref sig .tc := ⟨.hbm, 265, rfl⟩
abbrev main_while0b_v156 : Ref sig .tc := ⟨.hbm, 266, rfl⟩
abbrev main_while0b_cst_40 : Ref sig .tc := ⟨.hbm, 267, rfl⟩
abbrev main_while0b_v157 : Ref sig .tc := ⟨.hbm, 268, rfl⟩
abbrev main_while0b_v158 : Ref sig .tc := ⟨.hbm, 269, rfl⟩
abbrev main_while0b_v159 : Ref sig .tc := ⟨.hbm, 270, rfl⟩
abbrev main_while0b_v160 : Ref sig .tc := ⟨.hbm, 271, rfl⟩
abbrev main_while0b_v161 : Ref sig .tc := ⟨.hbm, 272, rfl⟩
abbrev main_while0b_cst_41 : Ref sig .tc := ⟨.hbm, 273, rfl⟩
abbrev main_while0b_v162 : Ref sig .tc := ⟨.hbm, 274, rfl⟩
abbrev main_while0b_v163 : Ref sig .tc := ⟨.hbm, 275, rfl⟩
abbrev main_while0b_cst_42 : Ref sig .tc := ⟨.hbm, 276, rfl⟩
abbrev main_while0b_v164 : Ref sig .tc := ⟨.hbm, 277, rfl⟩
abbrev main_while0b_v165 : Ref sig .tc := ⟨.hbm, 278, rfl⟩
abbrev main_while0b_v166 : Ref sig .tc := ⟨.hbm, 279, rfl⟩
abbrev main_while0b_v167 : Ref sig .tc := ⟨.hbm, 280, rfl⟩
abbrev main_while0b_v168 : Ref sig .tc := ⟨.hbm, 281, rfl⟩
abbrev main_while0b_v169 : Ref sig .tc := ⟨.hbm, 282, rfl⟩
abbrev main_while0b_v170 : Ref sig .tc := ⟨.hbm, 283, rfl⟩
abbrev main_while0b_v171 : Ref sig .tc := ⟨.hbm, 284, rfl⟩
abbrev main_while0b_v172 : Ref sig .tc := ⟨.hbm, 285, rfl⟩
abbrev main_while0b_v173 : Ref sig .tc := ⟨.hbm, 286, rfl⟩
abbrev main_while0b_v174 : Ref sig .tc := ⟨.hbm, 287, rfl⟩
abbrev main_while0b_v175 : Ref sig .tc := ⟨.hbm, 288, rfl⟩
abbrev main_while0b_v176 : Ref sig .tc := ⟨.hbm, 289, rfl⟩
abbrev main_while0b_v177 : Ref sig .tc := ⟨.hbm, 290, rfl⟩
abbrev main_while0b_v178 : Ref sig .tc := ⟨.hbm, 291, rfl⟩
abbrev main_while0b_v179 : Ref sig .tc := ⟨.hbm, 292, rfl⟩
abbrev main_while0b_v180 : Ref sig .tc := ⟨.hbm, 293, rfl⟩
abbrev main_while0b_v181 : Ref sig .tc := ⟨.hbm, 294, rfl⟩
abbrev main_while0b_v182 : Ref sig .tc := ⟨.hbm, 295, rfl⟩
abbrev main_while0b_v183 : Ref sig .tc := ⟨.hbm, 296, rfl⟩
abbrev main_while0b_v184 : Ref sig .tc := ⟨.hbm, 297, rfl⟩
abbrev main_while0b_v185 : Ref sig .tc := ⟨.hbm, 298, rfl⟩
abbrev main_while0b_v186 : Ref sig .tc := ⟨.hbm, 299, rfl⟩
abbrev main_while0b_v187 : Ref sig .tc := ⟨.hbm, 300, rfl⟩
abbrev main_while0b_cst_43 : Ref sig .tc := ⟨.hbm, 301, rfl⟩
abbrev main_while0b_v188 : Ref sig .tc := ⟨.hbm, 302, rfl⟩
abbrev main_while0b_v189 : Ref sig .tc := ⟨.hbm, 303, rfl⟩
abbrev main_while0b_cst_44 : Ref sig .tc := ⟨.hbm, 304, rfl⟩
abbrev main_while0b_v190 : Ref sig .tc := ⟨.hbm, 305, rfl⟩
abbrev main_while0b_v191 : Ref sig .tc := ⟨.hbm, 306, rfl⟩
abbrev main_while0b_v192 : Ref sig .tc := ⟨.hbm, 307, rfl⟩
abbrev main_while0b_v193 : Ref sig .tc := ⟨.hbm, 308, rfl⟩
abbrev main_while0b_cst_45 : Ref sig .tc := ⟨.hbm, 309, rfl⟩
abbrev main_while0b_v194 : Ref sig .tc := ⟨.hbm, 310, rfl⟩
abbrev main_while0b_v195 : Ref sig .tc := ⟨.hbm, 311, rfl⟩
abbrev main_while0b_cst_46 : Ref sig .tc := ⟨.hbm, 312, rfl⟩
abbrev main_while0b_v196 : Ref sig .tc := ⟨.hbm, 313, rfl⟩
abbrev main_while0b_v197 : Ref sig .tc := ⟨.hbm, 314, rfl⟩
abbrev main_while0b_v198 : Ref sig .tc := ⟨.hbm, 315, rfl⟩
abbrev main_while0b_v199 : Ref sig .tc := ⟨.hbm, 316, rfl⟩
abbrev main_while0b_v200 : Ref sig .tc := ⟨.hbm, 317, rfl⟩
abbrev main_while0b_cst_47 : Ref sig .tc := ⟨.hbm, 318, rfl⟩
abbrev main_while0b_v201 : Ref sig .tc := ⟨.hbm, 319, rfl⟩
abbrev main_while0b_v202 : Ref sig .tc := ⟨.hbm, 320, rfl⟩
abbrev main_while0b_cst_48 : Ref sig .tc := ⟨.hbm, 321, rfl⟩
abbrev main_while0b_v203 : Ref sig .tc := ⟨.hbm, 322, rfl⟩
abbrev main_while0b_v204 : Ref sig .tc := ⟨.hbm, 323, rfl⟩
abbrev main_while0b_v205 : Ref sig .tc := ⟨.hbm, 324, rfl⟩
abbrev main_while0b_v206 : Ref sig .tc := ⟨.hbm, 325, rfl⟩
abbrev main_while0b_v207 : Ref sig .tc := ⟨.hbm, 326, rfl⟩
abbrev main_while0b_v208 : Ref sig .tc := ⟨.hbm, 327, rfl⟩
abbrev main_while0b_v209 : Ref sig .tc := ⟨.hbm, 328, rfl⟩
abbrev main_while0b_c_49 : Ref sig .tc := ⟨.hbm, 329, rfl⟩
abbrev main_while0b_v210 : Ref sig .tc := ⟨.hbm, 330, rfl⟩
abbrev main_v126 : Ref sig .tc := ⟨.hbm, 331, rfl⟩
abbrev main_v127 : Ref sig .tc := ⟨.hbm, 332, rfl⟩
abbrev main_v128 : Ref sig .tc := ⟨.hbm, 333, rfl⟩
abbrev main_v129 : Ref sig .tc := ⟨.hbm, 334, rfl⟩
abbrev main_v130 : Ref sig .tc := ⟨.hbm, 335, rfl⟩

abbrev nD : Nat := 1
abbrev τ : Topo := Topo.v7x

variable {F : FTy → Type} [FloatOps F]

abbrev main_while0_count : Scf.Loop 32 := ⟨0#32, 12#32, 1#32⟩
-- ==== Proof.KernelRun.lean ====
/- The kernel's run with its result: the launch of @main over its segments, read at the result array and the arguments. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- @main ends with the result array at the last boundary's contents and the arguments as launched. -/
theorem run : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v0 (by decide)),
      (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c)⟩)

end Cert.KernelIdeal.Value

end
-- ==== Proof.Spec.lean ====
/- The stacked LSTM of one row, over the extended reals, and the half-argument form of the logistic function. -/
module

public import Idealize.ShloMosaic.Lib.Pointwise

@[expose] public section

set_option maxRecDepth 16384

noncomputable section

namespace Cert.Spec

open Idealize.ShloMosaic

/-- A gate's argument at unit `q`: the input's and the state's products with row `q` of the weights, and both biases. -/
def gate (wi wh : Fin 512 → Fin 128 → EReal) (bi bh : Fin 512 → EReal) (x h : Fin 128 → EReal) (q : Fin 512) : EReal :=
  ∑ k, x k * wi q k + ∑ k, h k * wh q k + bi q + bh q

/-- Unit `j` of gate number `g`. -/
def unit (g : Fin 4) (j : Fin 128) : Fin 512 := ⟨128 * g.1 + j.1, by omega⟩

/-- One layer's weights. -/
structure Layer where
  wi : Fin 512 → Fin 128 → EReal
  wh : Fin 512 → Fin 128 → EReal
  bi : Fin 512 → EReal
  bh : Fin 512 → EReal

/-- The next cell contents. -/
def cellC (w : Layer) (x h c : Fin 128 → EReal) (j : Fin 128) : EReal :=
  Ideal.logistic (gate w.wi w.wh w.bi w.bh x h (unit 1 j)) * c j
    + Ideal.logistic (gate w.wi w.wh w.bi w.bh x h (unit 0 j)) * Ideal.tanh (gate w.wi w.wh w.bi w.bh x h (unit 2 j))

/-- The next hidden state. -/
def cellH (w : Layer) (x h c : Fin 128 → EReal) (j : Fin 128) : EReal :=
  Ideal.logistic (gate w.wi w.wh w.bi w.bh x h (unit 3 j)) * Ideal.tanh (cellC w x h c j)

/-- Both layers' states of one row. -/
structure State where
  h0 : Fin 128 → EReal
  c0 : Fin 128 → EReal
  h1 : Fin 128 → EReal
  c1 : Fin 128 → EReal

/-- Both layers' step on one row's input. -/
def step (w0 w1 : Layer) (x : Fin 128 → EReal) (s : State) : State where
  h0 := cellH w0 x s.h0 s.c0
  c0 := cellC w0 x s.h0 s.c0
  h1 := cellH w1 (cellH w0 x s.h0 s.c0) s.h1 s.c1
  c1 := cellC w1 (cellH w0 x s.h0 s.c0) s.h1 s.c1

/-- The state after `n` inputs, from zeros. -/
def run (w0 w1 : Layer) (xs : ℕ → Fin 128 → EReal) : ℕ → State
  | 0 => ⟨fun _ => 0, fun _ => 0, fun _ => 0, fun _ => 0⟩
  | n + 1 => step w0 w1 (xs n) (run w0 w1 xs n)

/-- The output layer. -/
def head (wo : Fin 128 → Fin 24 → EReal) (bo : Fin 24 → EReal) (h : Fin 128 → EReal) (o : Fin 24) : EReal :=
  ∑ k, h k * wo k o + bo o

/-- `run` depends on its inputs' values alone. -/
theorem run_congr {w0 w1 : Layer} {xs ys : ℕ → Fin 128 → EReal} (n : ℕ) (h : ∀ t, t < n → xs t = ys t) :
    run w0 w1 xs n = run w0 w1 ys n := by
  induction n with
  | zero => rfl
  | succ n ih => simp only [run, ih fun t ht => h t (by omega), h n (by omega)]

/-- The half of the real line. -/
theorem half_bits : (Ideal.ofBits .f32 0x3F000000#32 : EReal) = ((1 / 2 : ℝ) : EReal) := by
  simp only [Ideal.ofBits, Ideal.ieee]
  simp
  rw [← EReal.coe_mul]
  norm_num

/-- The logistic function through the hyperbolic tangent at half the argument. -/
theorem half_tanh (x : EReal) :
    ((1 / 2 : ℝ) : EReal) + ((1 / 2 : ℝ) : EReal) * Ideal.tanh (((1 / 2 : ℝ) : EReal) * x) = Ideal.logistic x := by
  induction x with
  | bot =>
    rw [EReal.coe_mul_bot_of_pos (by norm_num), Ideal.tanh_bot, Ideal.logistic_bot]
    have : ((1 / 2 : ℝ) : EReal) + ((1 / 2 : ℝ) : EReal) * ((-1 : ℝ) : EReal) = ((0 : ℝ) : EReal) := by
      rw [← EReal.coe_mul, ← EReal.coe_add]; norm_num
    simpa using this
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have h1 : Real.exp (-r) = Real.exp (-(1 / 2 * r)) * Real.exp (-(1 / 2 * r)) := by
      rw [← Real.exp_add]; ring_nf
    have h2 : Real.exp (1 / 2 * r) * Real.exp (-(1 / 2 * r)) = 1 := by
      rw [← Real.exp_add]; simp
    have hp := Real.exp_pos (1 / 2 * r)
    have hq := Real.exp_pos (-(1 / 2 * r))
    rw [h1]
    generalize Real.exp (1 / 2 * r) = a at h2 hp ⊢
    generalize Real.exp (-(1 / 2 * r)) = b at h2 hq ⊢
    have e : 1 / 2 + 1 / 2 * ((a - b) / 2 / ((a + b) / 2)) = a / (a + b) := by
      field_simp
      ring
    rw [e, eq_comm, inv_eq_iff_eq_inv, inv_div, eq_div_iff hp.ne']
    linear_combination b * h2

/-- A sum against scaled weights is the scaled sum, for a nonnegative real scale. -/
theorem sum_scale {ι : Type*} (s : Finset ι) (c : ℝ) (hc : 0 ≤ c) (f g : ι → EReal) :
    ∑ k ∈ s, f k * (g k * (c : EReal)) = (c : EReal) * ∑ k ∈ s, f k * g k := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]
    congr 1
    rw [← mul_assoc, mul_comm]

/-- A gate's argument with scaled weights and a scaled total bias is the scaled argument. -/
theorem gate_scale (c : ℝ) (hc : 0 ≤ c) (f g f' g' : Fin 128 → EReal) (b b' : EReal) :
    ∑ k, f k * (g k * (c : EReal)) + ∑ k, f' k * (g' k * (c : EReal)) + (b + b') * (c : EReal)
      = (c : EReal) * (∑ k, f k * g k + ∑ k, f' k * g' k + b + b') := by
  have hc' : (0 : EReal) ≤ (c : EReal) := by exact_mod_cast hc
  rw [sum_scale _ c hc, sum_scale _ c hc, mul_comm (b + b'), add_assoc _ b b',
    EReal.left_distrib_of_nonneg_of_ne_top hc' (EReal.coe_ne_top c) (_ + _) (b + b'),
    EReal.left_distrib_of_nonneg_of_ne_top hc' (EReal.coe_ne_top c) b b',
    EReal.left_distrib_of_nonneg_of_ne_top hc' (EReal.coe_ne_top c) (∑ k, f k * g k)]

end Cert.Spec

end
-- ==== Proof.KernelGcn.lean ====
/- The kernel's graph convolution block, as vector operations. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Gcn

open Cert.KernelIdeal Cert.KernelIdeal.Gen
open Idealize.ShloMosaic Idealize.ShloMosaic.TcCoe

section Vectors

variable {F : FTy → Type} [FloatOps F]

theorem slices1 (b : Fin 32) : S1x4096.Slices ![0, 128 * b.1] S1x128 :=
  ⟨rfl, fun a => by fin_cases a <;> simp [S1x4096, S1x128] <;> omega⟩

theorem slices325 (b : Fin 32) : S325x4096.Slices ![0, 128 * b.1] S325x128 :=
  ⟨rfl, fun a => by fin_cases a <;> simp [S325x4096, S325x128] <;> omega⟩

/-- The batch elements. -/
def batch : List (Fin 32) :=
  [0, 1, 2, 3, 4, 5, 6, 7, 8, 9, 10, 11, 12, 13, 14, 15, 16, 17, 18, 19, 20, 21, 22, 23, 24, 25, 26, 27, 28, 29, 30, 31]

theorem batch_eq : batch = List.finRange 32 := by decide +kernel

theorem cat1 {α : Type} (f : Fin 32 → S1x128.Idx → α) :
    Shape.Concatenates ((batch.map fun e => (⟨S1x128, f e⟩ : (s : Shape) × (s.Idx → α))).map (·.1)) S1x4096 1 :=
  (by decide : Shape.Concatenates (batch.map fun _ => S1x128) S1x4096 1)

theorem cat325 {α : Type} (f : Fin 32 → S325x128.Idx → α) :
    Shape.Concatenates ((batch.map fun e => (⟨S325x128, f e⟩ : (s : Shape) × (s.Idx → α))).map (·.1)) S325x4096 1 :=
  (by decide : Shape.Concatenates (batch.map fun _ => S325x128) S325x4096 1)

/-- Batch element `b`'s lanes, added to `acc`. -/
def addLanes (v : FVec F S1x4096 .f32) (acc : FVec F S1x128 .f32) (b : Fin 32) : FVec F S1x128 .f32 :=
  addf acc (extractStridedSlice S1x128 ![0, 128 * b.1] v (slices1 b))

/-- The batch elements' lanes, added up. -/
def total (v : FVec F S1x4096 .f32) : FVec F S1x128 .f32 :=
  batch.foldl (addLanes v) (broadcast S1x128 (Scalar.ofBits .f32 0x00000000#32))

/-- The sums over the nodes. -/
def colSum (h : FVec F S325x4096 .f32) : FVec F S1x4096 .f32 :=
  shapeCast S1x4096 (multiReduction .add [0] S4096 h 0x00000000#32 reduces_S325x4096_S4096 (.inl rfl) rfl) shapeCasts_S4096_S1x4096

/-- One batch element's lanes, for every batch element and node. -/
def wide (x : FVec F S1x128 .f32) : FVec F S325x4096 .f32 :=
  broadcastTo S325x4096 (concatenate S1x4096 1 (batch.map fun _ => ⟨S1x128, x⟩) (cat1 _)) broadcasts_S1x4096_S325x4096

/-- The number of rows, in every lane. -/
def rows : FVec F S1x128 .f32 := broadcast S1x128 (Scalar.ofBits .f32 0x46228000#32)

/-- The mean over all rows. -/
def mean (h : FVec F S325x4096 .f32) : FVec F S1x128 .f32 := divf (total (colSum h)) rows

/-- The scale of the batch normalization. -/
def bnScale (h : FVec F S325x4096 .f32) (g : FVec F S128 .f32) : FVec F S1x128 .f32 :=
  mulf (shapeCast S1x128 g shapeCasts_S128_S1x128)
    (rsqrt (addf (subf (mean (mulf h h)) (mulf (mean h) (mean h))) (broadcast S1x128 (Scalar.ofBits .f32 0x3727C5AC#32))))

/-- The batch normalization and the rectifier. -/
def bn (h : FVec F S325x4096 .f32) (g be : FVec F S128 .f32) : FVec F S325x4096 .f32 :=
  maximumf (addf (mulf h (wide (bnScale h g)))
    (wide (subf (shapeCast S1x128 be shapeCasts_S128_S1x128) (mulf (mean h) (bnScale h g)))))
    (broadcast S325x4096 (Scalar.ofBits .f32 0x00000000#32))

/-- The first convolution. -/
def conv0 (a : FVec F S325x325 .f32) (x : FVec F S1x325x64 .f32) (w : FVec F S64x4096 .f32) (b : FVec F S1x4096 .f32) : FVec F S325x4096 .f32 :=
  addf (matmul dot_S325x64_S64x4096_S325x4096_1_0_0_1_n_n none
      (matmul dot_S325x325_S325x64_S325x64_1_0_0_1_n_n none (shapeCast S325x325 a shapeCasts_S325x325_S325x325)
        (shapeCast S325x64 x shapeCasts_S1x325x64_S325x64) (constant S325x64 .f32 0x00000000#32))
      (shapeCast S64x4096 w shapeCasts_S64x4096_S64x4096) (constant S325x4096 .f32 0x00000000#32))
    (broadcastTo S325x4096 (shapeCast S1x4096 b shapeCasts_S1x4096_S1x4096) broadcasts_S1x4096_S325x4096)

/-- One batch element's lanes times the weights. -/
def lanesDot (v : FVec F S325x4096 .f32) (w : FVec F S128x128 .f32) (b : Fin 32) : FVec F S325x128 .f32 :=
  matmul dot_S325x128_S128x128_S325x128_1_0_0_1_n_n none (extractStridedSlice S325x128 ![0, 128 * b.1] v (slices325 b)) w
    (constant S325x128 .f32 0x00000000#32)

/-- The second convolution. -/
def conv1 (a : FVec F S325x325 .f32) (h : FVec F S325x4096 .f32) (w : FVec F S128x128 .f32) (b : FVec F S1x4096 .f32) : FVec F S325x4096 .f32 :=
  addf (concatenate S325x4096 1 (batch.map fun e => ⟨S325x128, lanesDot
      (matmul dot_S325x325_S325x4096_S325x4096_1_0_0_1_n_n none (shapeCast S325x325 a shapeCasts_S325x325_S325x325) h
        (constant S325x4096 .f32 0x00000000#32)) w e⟩) (cat325 _))
    (broadcastTo S325x4096 (shapeCast S1x4096 b shapeCasts_S1x4096_S1x4096) broadcasts_S1x4096_S325x4096)

section Pieces

variable (v0 : Vec F S325x325 .f32) (v2 : Vec F S1x325x64 .f32) (v5 : Vec F S64x4096 .f32) (v8 : Vec F S1x4096 .f32)

theorem pay3_eq : k1_pay3 v0 v2 v5 v8 = conv0 v0 v2 v5 v8 := rfl

theorem pay4_eq : k1_pay4 v0 v2 v5 v8 = colSum (conv0 v0 v2 v5 v8) := rfl

theorem pay5_eq : k1_pay5 v0 v2 v5 v8 = colSum (mulf (conv0 v0 v2 v5 v8) (conv0 v0 v2 v5 v8)) := rfl

theorem pay8_eq : k1_pay8 (k1_pay4 v0 v2 v5 v8) (k1_pay6 v0 v2 v5 v8) (k1_pay7 v0 v2 v5 v8) = total (k1_pay4 v0 v2 v5 v8) := rfl

theorem pay13_eq (v : FVec F S1x4096 .f32) (s : FVec F S1x128 .f32) : k1_pay13 v s (k1_pay9 v) (k1_pay10 v)
    = rsqrt (addf (subf (divf (total v) rows) (mulf (divf s rows) (divf s rows))) (broadcast S1x128 (Scalar.ofBits .f32 0x3727C5AC#32))) := rfl

variable (w h : FVec F S325x4096 .f32) (g be : Vec F S128 .f32)

theorem pay35_eq : k1_pay35 (k1_pay32 w h) (k1_pay34 w h) = total (colSum (addf w h)) := rfl

theorem pay33_eq : k1_pay33 w h = colSum (mulf (addf w h) (addf w h)) := rfl

theorem pay14_eq : k1_pay14 (k1_pay2 v0) h be (k1_pay11 (total (colSum h))) (k1_pay12 g)
      (rsqrt (addf (subf (divf (total (colSum (mulf h h))) rows) (mulf (divf (total (colSum h)) rows) (divf (total (colSum h)) rows)))
        (broadcast S1x128 (Scalar.ofBits .f32 0x3727C5AC#32))))
    = matmul dot_S325x325_S325x4096_S325x4096_1_0_0_1_n_n none (shapeCast S325x325 v0 shapeCasts_S325x325_S325x325) (bn h g be)
        (constant S325x4096 .f32 0x00000000#32) := rfl

theorem pay29_eq (v1 : FVec F S325x325 .f32) (v11 : FVec F S325x4096 .f32) (v13 : Vec F S128 .f32) (v150 v155 v158 : FVec F S1x128 .f32)
    (w1 : Vec F S128x128 .f32) :
    k1_pay29 (k1_pay14 v1 v11 v13 v150 v155 v158) w1 (k1_pay15 v1 v11 v13 v150 v155 v158 w1)
      (k1_pay16 v1 v11 v13 v150 v155 v158 w1)
      (k1_pay17 v1 v11 v13 v150 v155 v158 w1)
      (k1_pay18 v1 v11 v13 v150 v155 v158 w1)
      (k1_pay19 v1 v11 v13 v150 v155 v158 w1)
      (k1_pay20 v1 v11 v13 v150 v155 v158 w1)
      (k1_pay21 v1 v11 v13 v150 v155 v158 w1)
      (k1_pay22 v1 v11 v13 v150 v155 v158 w1)
      (k1_pay23 v1 v11 v13 v150 v155 v158 w1)
      (k1_pay24 v1 v11 v13 v150 v155 v158 w1)
      (k1_pay25 v1 v11 v13 v150 v155 v158 w1)
      (k1_pay26 v1 v11 v13 v150 v155 v158 w1)
      (k1_pay27 v1 v11 v13 v150 v155 v158 w1)
      (k1_pay28 v1 v11 v13 v150 v155 v158 w1)
    = concatenate S325x4096 1 (batch.map fun e => ⟨S325x128, lanesDot (k1_pay14 v1 v11 v13 v150 v155 v158) w1 e⟩) (cat325 _) := rfl

theorem pay37_eq : k1_pay37 h g be (colSum (mulf h h)) (total (colSum h)) (k1_pay36 (colSum (mulf h h))) = bn h g be := rfl

end Pieces

variable (x0 : Vec F S1x325x64 .f32) (x1 : Vec F S325x325 .f32) (x2 : Vec F S64x4096 .f32) (x3 : Vec F S1x4096 .f32)
  (x4 : Vec F S128x128 .f32) (x5 : Vec F S1x4096 .f32) (x6 x7 x8 x9 : Vec F S128 .f32)

/-- What the body leaves at one time step. -/
theorem out_eq : out1_10 x0 x1 x2 x3 x4 x5 x6 x7 x8 x9
    = shapeCast S1x325x4096 (bn (conv1 x1 (bn (conv0 x1 x0 x2 x3) x6 x7) x4 x5) x8 x9) shapeCasts_S325x4096_S1x325x4096 := by
  rw [out1_10, View.canon_cons_unit_lit _ _ _ (by decide)]
  unfold k1_pay47 k1_pay46 k1_pay45 k1_pay44 k1_pay43 k1_pay42 k1_pay41 k1_pay40 k1_pay39 k1_pay38
  rw [show View.ld x0 r1_1 = x0 from View.ld_unit_lit _ _ (by decide), show View.ld x1 r1_0 = x1 from View.ld_unit_lit _ _ (by decide),
    show View.ld x2 r1_2 = x2 from View.ld_unit_lit _ _ (by decide), show View.ld x3 r1_3 = x3 from View.ld_unit_lit _ _ (by decide),
    show View.ld x4 r1_5 = x4 from View.ld_unit_lit _ _ (by decide), show View.ld x5 r1_3 = x5 from View.ld_unit_lit _ _ (by decide),
    show View.ld x6 r1_4 = x6 from View.ld_unit_lit _ _ (by decide), show View.ld x7 r1_4 = x7 from View.ld_unit_lit _ _ (by decide),
    show View.ld x8 r1_4 = x8 from View.ld_unit_lit _ _ (by decide), show View.ld x9 r1_4 = x9 from View.ld_unit_lit _ _ (by decide)]
  rw [pay29_eq, pay8_eq, pay13_eq, pay5_eq, pay4_eq, pay3_eq]
  generalize conv0 x1 x0 x2 x3 = h0
  rw [pay14_eq, pay35_eq, pay33_eq]
  exact congrArg k1_pay1 (pay37_eq _ _ _)

end Vectors

end Cert.KernelIdeal.Gcn

end
-- ==== Proof.GcnSpec.lean ====
/- Two graph convolutions with batch normalizations at one time step, over the reals. -/
module

public import Idealize.ShloMosaic.Lib.Pointwise

@[expose] public section

set_option maxRecDepth 16384

noncomputable section

namespace Cert.Gcn

open Idealize.ShloMosaic

/-- A sum of reals is the sum of extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of a real and zero. -/
theorem coe_max (a : ℝ) : max (a : EReal) 0 = ((max a 0 : ℝ) : EReal) := by
  rw [← EReal.coe_zero]
  rcases le_total a 0 with h | h
  · rw [max_eq_right h, max_eq_right (EReal.coe_le_coe_iff.2 h)]
  · rw [max_eq_left h, max_eq_left (EReal.coe_le_coe_iff.2 h)]

section Graph

variable (s d : Fin 2600 → Fin 325)

/-- A node's degree, its self loop included. -/
def deg (n : Fin 325) : ℝ := (∑ k, if d k = n then 1 else 0) + 1

theorem deg_pos (n : Fin 325) : 0 < deg d n := by
  have : 0 ≤ ∑ k, (if d k = n then (1 : ℝ) else 0) := Finset.sum_nonneg fun k _ => by split <;> norm_num
  unfold deg; linarith

/-- The inverse root of the degree. -/
def dinv (n : Fin 325) : ℝ := (Real.sqrt (deg d n))⁻¹

/-- The normalized adjacency matrix. -/
def adj (n m : Fin 325) : ℝ :=
  (∑ k, (if d k = n then 1 else 0) * ((if s k = m then 1 else 0) * (dinv d (s k) * dinv d (d k))))
    + if n = m then dinv d m * dinv d m else 0

/-- What a node gathers from a function on nodes. -/
def gather (y : Fin 325 → ℝ) (n : Fin 325) : ℝ := ∑ m, adj s d n m * y m

/-- Gathering, edge by edge. -/
theorem gather_edges (y : Fin 325 → ℝ) (n : Fin 325) :
    gather s d y n = (∑ k, if d k = n then y (s k) * (dinv d (s k) * dinv d (d k)) else 0) + y n * (dinv d n * dinv d n) := by
  unfold gather adj
  simp only [add_mul, Finset.sum_add_distrib]
  congr 1
  · simp only [Finset.sum_mul]
    rw [Finset.sum_comm]
    refine Finset.sum_congr rfl fun k _ => ?_
    rw [Finset.sum_eq_single (s k)]
    · split <;> simp
      ring
    · intro m _ hm
      rw [if_neg (c := s k = m) (fun e => hm e.symm)]
      ring
    · simp
  · rw [Finset.sum_eq_single n]
    · simp; ring
    · intro m _ hm
      rw [if_neg (fun e => hm e.symm), zero_mul]
    · simp

/-- Gathering commutes with a linear map on the features. -/
theorem gather_linear {ι : Type*} [Fintype ι] (y : Fin 325 → ι → ℝ) (w : ι → ℝ) (n : Fin 325) :
    gather s d (fun m => ∑ f, y m f * w f) n = ∑ f, gather s d (fun m => y m f) n * w f := by
  unfold gather
  simp only [Finset.mul_sum, Finset.sum_mul]
  rw [Finset.sum_comm]
  refine Finset.sum_congr rfl fun f _ => Finset.sum_congr rfl fun m _ => ?_
  ring

/-- A convolution. -/
def conv {ι κ : Type*} [Fintype ι] (y : Fin 32 → Fin 325 → ι → ℝ) (w : ι → κ → ℝ) (c : κ → ℝ) (b : Fin 32) (n : Fin 325) (j : κ) : ℝ :=
  (∑ f, gather s d (fun m => y b m f) n * w f j) + c j

end Graph

section Norm

variable (h : Fin 32 → Fin 325 → ℝ)

/-- The mean over batch elements and nodes. -/
def mean : ℝ := (∑ b, ∑ n, h b n) / 10400

/-- The variance over batch elements and nodes. -/
def var : ℝ := (∑ b, ∑ n, (h b n - mean h) * (h b n - mean h)) / 10400

theorem var_nonneg : 0 ≤ var h :=
  div_nonneg (Finset.sum_nonneg fun b _ => Finset.sum_nonneg fun n _ => mul_self_nonneg _) (by norm_num)

/-- The variance is the mean square less the squared mean. -/
theorem var_eq : mean (fun b n => h b n * h b n) - mean h * mean h = var h := by
  have e : ∑ b, ∑ n, (h b n - mean h) * (h b n - mean h)
      = (∑ b, ∑ n, h b n * h b n) - 2 * mean h * (∑ b, ∑ n, h b n) + 10400 * (mean h * mean h) := by
    have : ∀ b n, (h b n - mean h) * (h b n - mean h) = h b n * h b n - 2 * mean h * h b n + mean h * mean h := fun b n => by ring
    simp only [this, Finset.sum_add_distrib, Finset.sum_sub_distrib, Finset.mul_sum]
    simp
    ring
  have hs : (∑ b, ∑ n, h b n) = 10400 * mean h := by unfold mean; field_simp
  unfold var
  rw [e, hs]
  unfold mean
  field_simp
  ring

/-- The constant added to the variance. -/
def eps : ℝ := 10995116 / 1099511627776

theorem eps_pos : 0 < eps := by unfold eps; norm_num

theorem eps_bits : (Ideal.ofBits .f32 0x3727C5AC#32 : EReal) = ((eps : ℝ) : EReal) := by
  unfold eps
  simp only [Ideal.ofBits, Ideal.ieee]
  simp
  rw [← EReal.coe_mul]
  norm_num

theorem rows_bits : (Ideal.ofBits .f32 0x46228000#32 : EReal) = ((10400 : ℝ) : EReal) := by
  simp only [Ideal.ofBits, Ideal.ieee]
  simp
  rw [← EReal.coe_mul]
  norm_num

/-- The inverse standard deviation. -/
def isd : ℝ := (Real.sqrt (var h + eps))⁻¹

theorem sd_pos : 0 < Real.sqrt (var h + eps) := Real.sqrt_pos.2 (by have := var_nonneg h; have := eps_pos; linarith)

/-- The normalized value. -/
def norm (b : Fin 32) (n : Fin 325) : ℝ := (h b n - mean h) * isd h

/-- Scaling and shifting first is normalizing first, whatever the bias. -/
theorem scale_shift (g : ℝ) (be : EReal) (b : Fin 32) (n : Fin 325) :
    ((h b n : ℝ) : EReal) * ((g * isd h : ℝ) : EReal) + (be - ((mean h : ℝ) : EReal) * ((g * isd h : ℝ) : EReal))
      = ((norm h b n * g : ℝ) : EReal) + be := by
  rw [← EReal.coe_mul, ← EReal.coe_mul, sub_eq_add_neg, ← EReal.coe_neg, add_left_comm, ← EReal.coe_add, add_comm be]
  congr 2
  unfold norm
  ring

end Norm

section Both

variable (s d : Fin 2600 → Fin 325) (x : Fin 32 → Fin 325 → Fin 2 → ℝ) (w0 : Fin 2 → Fin 128 → ℝ) (b0 g0 be0 : Fin 128 → ℝ)
  (w1 : Fin 128 → Fin 128 → ℝ) (b1 g1 : Fin 128 → ℝ) (be1 : Fin 128 → EReal)

/-- The first layer's features. -/
def hid (b : Fin 32) (n : Fin 325) (j : Fin 128) : ℝ :=
  max (norm (fun b n => conv s d x w0 b0 b n j) b n * g0 j + be0 j) 0

/-- The second layer's features: the last bias may be infinite. -/
def out (b : Fin 32) (n : Fin 325) (j : Fin 128) : EReal :=
  max (((norm (fun b n => conv s d (hid s d x w0 b0 g0 be0) w1 b1 b n j) b n * g1 j : ℝ) : EReal) + be1 j) 0

end Both

end Cert.Gcn

end
-- ==== Proof.KernelGcnValue.lean ====
/- What the kernel's graph convolution block computes at one time step, from real arrays. -/
module

public import proofs.«01_k».proof.Proof.KernelGcn
public import proofs.«01_k».proof.Proof.GcnSpec

@[expose] public section

set_option maxRecDepth 16384

noncomputable section

namespace Cert.KernelIdeal.Gcn

open Cert.KernelIdeal Cert.KernelIdeal.Gen Cert.Gcn
open Idealize.ShloMosaic Idealize.ShloMosaic.TcCoe

/-- Batch element `b`'s lane `j`. -/
def col (b : Fin 32) (j : Fin 128) : Fin 4096 := ⟨128 * b.1 + j.1, by omega⟩

theorem colSum_apply (h : FVec Ideal S325x4096 .f32) (q : Fin 4096) : colSum h (ix2 0 q) = ∑ n : Fin 325, h (ix2 n q) := by
  pointwise [colSum]

theorem foldl_addLanes (v : FVec Ideal S1x4096 .f32) (j : Fin 128) (l : List (Fin 32)) (acc : FVec Ideal S1x128 .f32) :
    l.foldl (addLanes v) acc (ix2 0 j) = acc (ix2 0 j) + (l.map fun b => v (ix2 0 (col b j))).sum := by
  induction l generalizing acc with
  | nil => simp
  | cons b l ih =>
    rw [List.foldl_cons, ih, List.map_cons, List.sum_cons, ← add_assoc]
    congr 1
    pointwise [addLanes]
    rfl

theorem total_apply (v : FVec Ideal S1x4096 .f32) (j : Fin 128) : total v (ix2 0 j) = ∑ b : Fin 32, v (ix2 0 (col b j)) := by
  rw [total, foldl_addLanes, batch_eq, ← Fin.sum_univ_def]
  pointwise

theorem wide_apply (x : FVec Ideal S1x128 .f32) (n : Fin 325) (b : Fin 32) (j : Fin 128) : wide x (ix2 n (col b j)) = x (ix2 0 j) := by
  have e : ∀ l : List (Fin 32), l = List.finRange 32 → ∀ hc, concatenate S1x4096 1 (l.map fun _ => (⟨S1x128, x⟩ : (s : Shape) × (s.Idx → EReal))) hc (ix2 0 (col b j)) = x (ix2 0 j) := by
    intro l hl hc
    subst hl
    revert hc
    rw [← List.ofFn_eq_map]
    intro hc
    refine concatenate_ofFn_apply (s₁ := S1x128) 1 (fun _ => x) hc rfl 128 rfl (ix2 0 (col b j)) b ?_ (ix2 0 j) ?_ ?_
    · show (128 * b.1 + j.1) / 128 = b.1
      omega
    · show j.1 = (128 * b.1 + j.1) % 128
      omega
    · intro a ha
      fin_cases a
      · rfl
      · exact absurd rfl ha
  unfold wide
  pointwise
  exact e batch batch_eq _

theorem lanes_apply (f : Fin 32 → FVec Ideal S325x128 .f32) (n : Fin 325) (b : Fin 32) (j : Fin 128) :
    concatenate S325x4096 1 (batch.map fun e => ⟨S325x128, f e⟩) (cat325 _) (ix2 n (col b j)) = f b (ix2 n j) := by
  have e : ∀ l : List (Fin 32), l = List.finRange 32 → ∀ hc, concatenate S325x4096 1 (l.map fun e => (⟨S325x128, f e⟩ : (s : Shape) × (s.Idx → EReal))) hc (ix2 n (col b j)) = f b (ix2 n j) := by
    intro l hl hc
    subst hl
    revert hc
    rw [← List.ofFn_eq_map]
    intro hc
    refine concatenate_ofFn_apply (s₁ := S325x128) 1 f hc rfl 128 rfl (ix2 n (col b j)) b ?_ (ix2 n j) ?_ ?_
    · show (128 * b.1 + j.1) / 128 = b.1
      omega
    · show j.1 = (128 * b.1 + j.1) % 128
      omega
    · intro a ha
      fin_cases a
      · rfl
      · exact absurd rfl ha
  exact e batch batch_eq _

/-- An array holds these reals. -/
def Holds (h : FVec Ideal S325x4096 .f32) (H : Fin 32 → Fin 325 → Fin 128 → ℝ) : Prop :=
  ∀ n b j, h (ix2 n (col b j)) = ((H b n j : ℝ) : EReal)

theorem Holds.sq {h : FVec Ideal S325x4096 .f32} {H : Fin 32 → Fin 325 → Fin 128 → ℝ} (hh : Holds h H) :
    Holds (mulf h h) fun b n j => H b n j * H b n j := by
  intro n b j
  pointwise
  rw [hh, ← EReal.coe_mul]

section Norm

variable {h : FVec Ideal S325x4096 .f32} {H : Fin 32 → Fin 325 → Fin 128 → ℝ} (hh : Holds h H)

include hh in
theorem mean_apply (j : Fin 128) : mean h (ix2 0 j) = ((Cert.Gcn.mean (fun b n => H b n j) : ℝ) : EReal) := by
  have e : total (colSum h) (ix2 0 j) = ((∑ b, ∑ n, H b n j : ℝ) : EReal) := by
    rw [total_apply]
    simp only [colSum_apply, hh _ _ _, coe_sum]
  pointwise [mean, rows]
  rw [e, rows_bits, Ideal.div_coe (by norm_num), ← EReal.coe_mul]
  congr 1
  unfold Cert.Gcn.mean
  ring

include hh in
theorem bnScale_apply (g : FVec Ideal S128 .f32) (j : Fin 128) (γ : ℝ) (hg : g (ix1 j) = ((γ : ℝ) : EReal)) :
    bnScale h g (ix2 0 j) = ((γ * isd (fun b n => H b n j) : ℝ) : EReal) := by
  pointwise [bnScale]
  rw [mean_apply hh, mean_apply hh.sq, eps_bits, hg, ← EReal.coe_mul, ← EReal.coe_sub, ← EReal.coe_add,
    var_eq (fun b n => H b n j)]
  have hp := sd_pos (fun b n => H b n j)
  have hv := Real.sqrt_pos.1 hp
  rw [Ideal.rsqrt_coe, if_neg (not_lt.2 hv.le), if_neg hv.ne', ← EReal.coe_mul]
  rfl

include hh in
theorem bn_apply (g be : FVec Ideal S128 .f32) (j : Fin 128) (γ : ℝ) (hg : g (ix1 j) = ((γ : ℝ) : EReal)) (n : Fin 325) (b : Fin 32) :
    bn h g be (ix2 n (col b j)) = max (((norm (fun b n => H b n j) b n * γ : ℝ) : EReal) + be (ix1 j)) 0 := by
  pointwise [bn, wide_apply]
  rw [bnScale_apply hh g j γ hg, mean_apply hh, hh]
  exact congrArg (fun v : EReal => max v 0) (scale_shift (fun b n => H b n j) γ (be (ix1 j)) b n)

end Norm

/-- Batch element `b`'s input lane `f`. -/
def inCol (b : Fin 32) (f : Fin 2) : Fin 64 := ⟨b.1 * 2 + f.1, by omega⟩

section Conv

variable (s d : Fin 2600 → Fin 325) {a : FVec Ideal S325x325 .f32} (ha : ∀ n m, a (ix2 n m) = ((adj s d n m : ℝ) : EReal))

include ha in
theorem conv0_holds {x : FVec Ideal S1x325x64 .f32} {w : FVec Ideal S64x4096 .f32} {c : FVec Ideal S1x4096 .f32}
    {X : Fin 32 → Fin 325 → Fin 2 → ℝ} {W : Fin 2 → Fin 128 → ℝ} {C : Fin 128 → ℝ}
    (hx : ∀ n b f, x (ix3 0 n (inCol b f)) = ((X b n f : ℝ) : EReal))
    (hw : ∀ e f b j, w (ix2 (inCol e f) (col b j)) = (((if e = b then W f j else 0 : ℝ)) : EReal))
    (hc : ∀ b j, c (ix2 0 (col b j)) = ((C j : ℝ) : EReal)) :
    Holds (conv0 a x w c) (conv s d X W C) := by
  intro n b j
  pointwise [conv0]
  rw [hc, Fin.sum_univ_tiles 32 2 rfl]
  have e : ∀ (e : Fin 32) (f : Fin 2), (∑ m, a (ix2 n m) * x (ix3 0 m (inCol e f))) * w (ix2 (inCol e f) (col b j))
      = ((gather s d (fun m => X e m f) n * (if e = b then W f j else 0) : ℝ) : EReal) := by
    intro e f
    simp only [ha, hx, hw, ← EReal.coe_mul, coe_sum]
    rfl
  trans (∑ e : Fin 32, ∑ f : Fin 2, (∑ m, a (ix2 n m) * x (ix3 0 m (inCol e f))) * w (ix2 (inCol e f) (col b j))) + ((C j : ℝ) : EReal)
  · rfl
  simp only [e, coe_sum]
  rw [← EReal.coe_add]
  congr 1
  unfold conv
  congr 1
  rw [Finset.sum_eq_single b]
  · simp
  · intro e _ he
    simp [he]
  · simp

include ha in
theorem conv1_holds {h : FVec Ideal S325x4096 .f32} {w : FVec Ideal S128x128 .f32} {c : FVec Ideal S1x4096 .f32}
    {H : Fin 32 → Fin 325 → Fin 128 → ℝ} {W : Fin 128 → Fin 128 → ℝ} {C : Fin 128 → ℝ}
    (hh : Holds h H) (hw : ∀ f j, w (ix2 f j) = ((W f j : ℝ) : EReal))
    (hc : ∀ b j, c (ix2 0 (col b j)) = ((C j : ℝ) : EReal)) :
    Holds (conv1 a h w c) (conv s d H W C) := by
  intro n b j
  unfold conv1
  rw [addf_apply, lanes_apply]
  pointwise [lanesDot]
  rw [hc]
  have e : ∀ f : Fin 128, (∑ m, a (ix2 n m) * h (ix2 m (col b f))) * w (ix2 f j)
      = ((gather s d (fun m => H b m f) n * W f j : ℝ) : EReal) := by
    intro f
    simp only [ha, hh _ _ _, hw, ← EReal.coe_mul, coe_sum]
    rfl
  trans (∑ f : Fin 128, (∑ m, a (ix2 n m) * h (ix2 m (col b f))) * w (ix2 f j)) + ((C j : ℝ) : EReal)
  · rfl
  simp only [e, coe_sum]
  rw [← EReal.coe_add]
  rfl

include ha in
/-- What the body leaves at one time step, from real arrays. -/
theorem out_apply {x : FVec Ideal S1x325x64 .f32} {w : FVec Ideal S64x4096 .f32} {c : FVec Ideal S1x4096 .f32}
    {w1 : FVec Ideal S128x128 .f32} {c1 : FVec Ideal S1x4096 .f32} {g be g1 be1 : FVec Ideal S128 .f32}
    {X : Fin 32 → Fin 325 → Fin 2 → ℝ} {W : Fin 2 → Fin 128 → ℝ} {C G B : Fin 128 → ℝ} {W1 : Fin 128 → Fin 128 → ℝ} {C1 G1 : Fin 128 → ℝ}
    (hx : ∀ n b f, x (ix3 0 n (inCol b f)) = ((X b n f : ℝ) : EReal))
    (hw : ∀ e f b j, w (ix2 (inCol e f) (col b j)) = (((if e = b then W f j else 0 : ℝ)) : EReal))
    (hc : ∀ b j, c (ix2 0 (col b j)) = ((C j : ℝ) : EReal))
    (hw1 : ∀ f j, w1 (ix2 f j) = ((W1 f j : ℝ) : EReal)) (hc1 : ∀ b j, c1 (ix2 0 (col b j)) = ((C1 j : ℝ) : EReal))
    (hg : ∀ j, g (ix1 j) = ((G j : ℝ) : EReal)) (hbe : ∀ j, be (ix1 j) = ((B j : ℝ) : EReal))
    (hg1 : ∀ j, g1 (ix1 j) = ((G1 j : ℝ) : EReal)) (n : Fin 325) (b : Fin 32) (j : Fin 128) :
    (out1_10 (F := Ideal) x a w c w1 c1 g be g1 be1 (ix3 0 n (col b j)) : EReal)
      = Cert.Gcn.out s d X W C G B W1 C1 G1 (fun j => be1 (ix1 j)) b n j := by
  have h0 := conv0_holds s d ha hx hw hc
  have h1 : Holds (bn (conv0 a x w c) g be) (hid s d X W C G B) := by
    intro n b j
    rw [bn_apply h0 g be j _ (hg j), hbe, ← EReal.coe_add, coe_max]
    rfl
  have h2 := conv1_holds s d ha h1 hw1 hc1
  rw [out_eq]
  trans bn (conv1 a (bn (conv0 a x w c) g be) w1 c1) g1 be1 (ix2 n (col b j))
  · pointwise
  rw [bn_apply h2 g1 be1 j _ (hg1 j)]
  rfl

end Conv

end Cert.KernelIdeal.Gcn

end
-- ==== Proof.KernelAdj.lean ====
/- The kernel's normalized adjacency matrix. -/
module

public import proofs.«01_k».proof.Proof.Gen.KernelIdeal.Frame
public import proofs.«01_k».proof.Proof.GcnSpec
public import Idealize.ShloMosaic.Lib.Pipeline.ValueKit

@[expose] public section

set_option maxRecDepth 16384

noncomputable section

namespace Cert.KernelIdeal.Adj

open Cert.KernelIdeal Cert.KernelIdeal.Gen Cert.Gcn
open Idealize.ShloMosaic Idealize.ShloMosaic.TcCoe

section Vectors

variable {F : FTy → Type} [FloatOps F]

/-- The nodes' indicators of the edges' ends. -/
def hot (v : IVec S2600x1 32) : FVec F S2600x325 .f32 :=
  sitofp .f32 (extui 32 (cmpi .eq (broadcastTo S2600x325 (shapeCast S2600x1 v shapeCasts_S2600x1_S2600x1) broadcasts_S2600x1_S2600x325)
    (iota .tc S2600x325 32 [1] iota_S2600x325_d1_w32)) natLt_1_32)

/-- The inverse roots of the degrees. -/
def root (h : FVec F S2600x325 .f32) : FVec F S1x325 .f32 :=
  rsqrt (addf (shapeCast S1x325 (multiReduction .add [0] S325 h 0x00000000#32 reduces_S2600x325_S325 (.inl rfl) rfl) shapeCasts_S325_S1x325)
    (broadcast S1x325 (Scalar.ofBits .f32 0x3F800000#32)))

/-- A function on nodes at the edges' ends. -/
def atEnds (h : FVec F S2600x325 .f32) (r : FVec F S1x325 .f32) : FVec F S2600x1 .f32 :=
  matmul dot_S2600x325_S1x325_S2600x1_1_1_0_0_n_n none h r (constant S2600x1 .f32 0x00000000#32)

/-- The weighted indicators of the sources. -/
def weighted (hs : FVec F S2600x325 .f32) (e f : FVec F S2600x1 .f32) : FVec F S2600x325 .f32 :=
  mulf hs (broadcastTo S2600x325 (mulf e f) broadcasts_S2600x1_S2600x325)

/-- The self loops. -/
def loops (r : FVec F S1x325 .f32) : FVec F S325x325 .f32 :=
  select (cmpi .eq (iota .tc S325x325 32 [0] iota_S325x325_d0_w32) (iota .tc S325x325 32 [1] iota_S325x325_d1_w32))
    (broadcastTo S325x325 (shapeCast S1x325 (mulf r r) shapeCasts_S1x325_S1x325) broadcasts_S1x325_S325x325)
    (broadcast S325x325 (Scalar.ofBits .f32 0x00000000#32))

/-- The edges and the self loops. -/
def whole (hd sn : FVec F S2600x325 .f32) (l : FVec F S325x325 .f32) : FVec F S325x325 .f32 :=
  addf (matmul dot_S2600x325_S2600x325_S325x325_0_0_1_1_n_n none hd sn (constant S325x325 .f32 0x00000000#32)) l

theorem pay_eq (v0 v2 : Vec F S2600x1 .i32) : k0_pay1 (F := F) v0 v2
    = whole (hot v2) (weighted (hot v0) (atEnds (hot v0) (root (hot v2))) (atEnds (hot v2) (root (hot v2)))) (loops (root (hot v2))) := rfl

end Vectors

theorem cmp_eq (a b : Fin 325) : IntOp.cmpi CmpIPredicate.eq (BitVec.ofNat 32 a.1) (BitVec.ofNat 32 b.1) = if a = b then 1#1 else 0#1 := by
  have : BitVec.ofNat 32 a.1 = BitVec.ofNat 32 b.1 ↔ a = b := by
    rw [← BitVec.toNat_inj, BitVec.toNat_ofNat, BitVec.toNat_ofNat, Nat.mod_eq_of_lt (by omega), Nat.mod_eq_of_lt (by omega), Fin.ext_iff]
  by_cases h : a = b
  · simp [IntOp.cmpi, h]
  · have hb : (BitVec.ofNat 32 a.1 == BitVec.ofNat 32 b.1) = false := by
      rw [beq_eq_false_iff_ne]; exact fun e => h (this.1 e)
    rw [if_neg h, IntOp.cmpi]
    simp only [hb]
    rfl

variable (s d : Fin 2600 → Fin 325)

theorem hot_apply (v : IVec S2600x1 32) (k : Fin 2600) (a : Fin 325) (h : v (ix2 k 0) = BitVec.ofNat 32 a.1) (n : Fin 325) :
    hot (F := Ideal) v (ix2 k n) = (((if a = n then 1 else 0 : ℝ)) : EReal) := by
  pointwise [hot]
  rw [h, cmp_eq]
  split
  · show (((1#32 : BitVec 32).toInt : ℝ) : EReal) = _
    simp
  · show (((0#32 : BitVec 32).toInt : ℝ) : EReal) = _
    simp

theorem root_apply (h : FVec Ideal S2600x325 .f32) (hh : ∀ k n, h (ix2 k n) = (((if d k = n then 1 else 0 : ℝ)) : EReal)) (n : Fin 325) :
    root h (ix2 0 n) = ((dinv d n : ℝ) : EReal) := by
  pointwise [root]
  simp only [hh, coe_sum]
  rw [← EReal.coe_one, ← EReal.coe_add]
  have hp := deg_pos d n
  change Ideal.rsqrt ((deg d n : ℝ) : EReal) = _
  rw [Ideal.rsqrt_coe, if_neg (not_lt.2 hp.le), if_neg hp.ne']
  rfl

theorem atEnds_apply (h : FVec Ideal S2600x325 .f32) (hh : ∀ k n, h (ix2 k n) = (((if d k = n then 1 else 0 : ℝ)) : EReal))
    (r : FVec Ideal S1x325 .f32) (R : Fin 325 → ℝ) (hr : ∀ n, r (ix2 0 n) = ((R n : ℝ) : EReal)) (k : Fin 2600) :
    atEnds h r (ix2 k 0) = ((R (d k) : ℝ) : EReal) := by
  pointwise [atEnds]
  simp only [hh, hr, ← EReal.coe_mul, coe_sum]
  simp

theorem loops_apply (r : FVec Ideal S1x325 .f32) (R : Fin 325 → ℝ) (hr : ∀ n, r (ix2 0 n) = ((R n : ℝ) : EReal)) (n m : Fin 325) :
    loops r (ix2 n m) = (((if n = m then R m * R m else 0 : ℝ)) : EReal) := by
  pointwise [loops]
  rw [hr, cmp_eq]
  split <;> simp [Scalar.select]

theorem whole_apply (hd sn : FVec Ideal S2600x325 .f32) (l : FVec Ideal S325x325 .f32) (n m : Fin 325) :
    whole hd sn l (ix2 n m) = (∑ k : Fin 2600, hd (ix2 k n) * sn (ix2 k m)) + l (ix2 n m) := by
  pointwise [whole]

theorem weighted_apply (hs : FVec Ideal S2600x325 .f32) (p q : FVec Ideal S2600x1 .f32) (k : Fin 2600) (m : Fin 325) :
    weighted hs p q (ix2 k m) = hs (ix2 k m) * (p (ix2 k 0) * q (ix2 k 0)) := by
  pointwise [weighted]

theorem sum_eq (n m : Fin 325) (hd hs : FVec Ideal S2600x325 .f32) (p q : FVec Ideal S2600x1 .f32) (l : FVec Ideal S325x325 .f32)
    (ed : ∀ k n, hd (ix2 k n) = (((if d k = n then 1 else 0 : ℝ)) : EReal)) (es : ∀ k n, hs (ix2 k n) = (((if s k = n then 1 else 0 : ℝ)) : EReal))
    (e1 : ∀ k, p (ix2 k 0) = ((dinv d (s k) : ℝ) : EReal)) (e2 : ∀ k, q (ix2 k 0) = ((dinv d (d k) : ℝ) : EReal))
    (e3 : ∀ n m, l (ix2 n m) = (((if n = m then dinv d m * dinv d m else 0 : ℝ)) : EReal)) :
    whole hd (weighted hs p q) l (ix2 n m) = ((adj s d n m : ℝ) : EReal) := by
  rw [whole_apply, e3]
  simp only [weighted_apply, es, ed, e1, e2, ← EReal.coe_mul, coe_sum]
  rw [← EReal.coe_add]
  exact congrArg _ rfl

theorem pay_apply (v0 v2 : Vec Ideal S2600x1 .i32) (h0 : ∀ k, v0 (ix2 k 0) = BitVec.ofNat 32 (s k).1)
    (h2 : ∀ k, v2 (ix2 k 0) = BitVec.ofNat 32 (d k).1) (n m : Fin 325) :
    (k0_pay1 (F := Ideal) v0 v2 (ix2 n m) : EReal) = ((adj s d n m : ℝ) : EReal) := by
  have es : ∀ k n, hot (F := Ideal) v0 (ix2 k n) = (((if s k = n then 1 else 0 : ℝ)) : EReal) := fun k n => hot_apply v0 k (s k) (h0 k) n
  have ed : ∀ k n, hot (F := Ideal) v2 (ix2 k n) = (((if d k = n then 1 else 0 : ℝ)) : EReal) := fun k n => hot_apply v2 k (d k) (h2 k) n
  rw [pay_eq]
  have er := root_apply d _ ed
  exact sum_eq s d n m _ _ _ _ _ ed es (atEnds_apply s _ es _ _ er) (atEnds_apply d _ ed _ _ er) (loops_apply _ _ er)

/-- The block's stored matrix. -/
theorem out_apply (x : Vec Ideal S2600x2 .i32) (h0 : ∀ k, x (ix2 k 0) = BitVec.ofNat 32 (s k).1)
    (h1 : ∀ k, x (ix2 k 1) = BitVec.ofNat 32 (d k).1) (n m : Fin 325) :
    (out0_1 (F := Ideal) x (ix2 n m) : EReal) = ((adj s d n m : ℝ) : EReal) := by
  rw [out0_1, View.canon_cons_unit_lit _ _ _ (by decide)]
  refine pay_apply s d _ _ (fun k => ?_) (fun k => ?_) n m
  · rw [← h0]
    pointwise
  · rw [← h1]
    pointwise

end Cert.KernelIdeal.Adj

end
-- ==== Proof.KernelHost.lean ====
/- What the lines of host operations between the kernel's calls leave, read at an index. -/
module

public import proofs.«01_k».proof.Proof.KernelGcnValue
public import proofs.«01_k».proof.Proof.KernelAdj
public import proofs.«01_k».proof.Proof.Gen.KernelIdeal.Frame
public import Idealize.ShloMosaic.Lib.Pipeline.ValueKit

@[expose] public section

set_option maxRecDepth 16384

noncomputable section

namespace Cert.KernelIdeal.Host

open Cert.KernelIdeal Cert.KernelIdeal.Gen
open Cert.KernelIdeal.Gcn (col inCol)
open Idealize.ShloMosaic Idealize.ShloMosaic.TcCoe Idealize.ShloMosaic.Tactic

variable (σ : Valuation τ sig (Elt Ideal))

/-- The edges, transposed. -/
theorem edges_apply (k : Fin 2600) (e : Fin 2) :
    StableHlo.after hostOps0 σ (Proc.devRef .tc main_call0_v0) (ix2 k e) = σ (Proc.devRef .tc main_arg1) (ix2 e k) := by
  have h : StableHlo.after hostOps0 σ (Proc.devRef .tc main_call0_v0)
      = transpose S2600x2 [1, 0] (σ (Proc.devRef .tc main_arg1) : IVec S2x2600 32) transposes_S2x2600_S2600x2_1_0 := by
    entry_read
    rfl
  rw [h]
  pointwise

/-- The input with the time step first and the batch next to the feature. -/
def inputT (x : FVec Ideal S32x12x325x2 .f32) : FVec Ideal S12x325x64 .f32 :=
  shapeCast S12x325x64 (transpose S12x325x32x2 [1, 2, 0, 3] x transposes_S32x12x325x2_S12x325x32x2_1_2_0_3) shapeCasts_S12x325x32x2_S12x325x64

theorem inputT_apply (x : FVec Ideal S32x12x325x2 .f32) (t : Fin 12) (n : Fin 325) (b : Fin 32) (f : Fin 2) :
    inputT x (ix3 t n (inCol b f)) = x (ix4 b t n f) := by
  have h1 : (inCol b f).1 / 2 = b.1 := by simp only [inCol]; omega
  have h2 : (inCol b f).1 % 2 = f.1 := by simp only [inCol]; omega
  pointwise [inputT]
  simp only [h1, h2]

theorem input_apply (t : Fin 12) (n : Fin 325) (b : Fin 32) (f : Fin 2) :
    StableHlo.after hostOps1 σ (Proc.devRef .tc main_call0_v3) (ix3 t n (inCol b f))
      = σ (Proc.devRef .tc main_arg0) (ix4 b t n f) := by
  have h : StableHlo.after hostOps1 σ (Proc.devRef .tc main_call0_v3) = inputT (σ (Proc.devRef .tc main_arg0)) := by
    entry_read
    rfl
  rw [h]
  exact inputT_apply _ t n b f

/-- The identity matrix over the batch. -/
def eye : FVec Ideal S32x32 .f32 :=
  uitofp .f32 (cmpi .eq (addi (iotaInDim S32x32 32 0) (broadcastInDim S32x32 ![] bcast_S_S32x32 (constantI S_ 32 0#32))) (iotaInDim S32x32 32 1))

theorem eye_apply (e b : Fin 32) : (eye (ix2 e b) : EReal) = if e = b then 1 else 0 := by
  pointwise [eye]
  have h := Adj.cmp_eq (e.castLE (by decide)) (b.castLE (by decide))
  rw [Fin.val_castLE, Fin.val_castLE] at h
  rw [IntOp.addi, BitVec.add_zero, h]
  by_cases he : e = b
  · subst he
    rw [if_pos rfl, if_pos rfl]
    show (((1#1 : BitVec 1).toNat : ℝ) : EReal) = _
    simp
  · rw [if_neg he, if_neg (fun c => he (Fin.castLE_injective _ c))]
    show (((0#1 : BitVec 1).toNat : ℝ) : EReal) = _
    simp

/-- The weight matrix repeated along the diagonal of the batch. -/
def kron (w : FVec Ideal S2x128 .f32) : FVec Ideal S64x4096 .f32 :=
  shapeCast S64x4096 (mulf
    (broadcastInDim S32x2x32x128 ![0, 1, 2, 3] bcast_S32x1x32x1_S32x2x32x128_0_1_2_3
      (broadcastInDim S32x1x32x1 ![0, 2] bcast_S32x32_S32x1x32x1_0_2 eye))
    (broadcastInDim S32x2x32x128 ![0, 1, 2, 3] bcast_S1x2x1x128_S32x2x32x128_0_1_2_3
      (broadcastInDim S1x2x1x128 ![1, 3] bcast_S2x128_S1x2x1x128_1_3 w))) shapeCasts_S32x2x32x128_S64x4096

theorem kron_mul (w : FVec Ideal S2x128 .f32) (e : Fin 32) (f : Fin 2) (b : Fin 32) (j : Fin 128) :
    (kron w (ix2 (inCol e f) (col b j)) : EReal) = (if e = b then 1 else 0) * w (ix2 f j) := by
  rw [← eye_apply]
  have h1 : (inCol e f).1 / 2 = e.1 := by simp only [inCol]; omega
  have h2 : (inCol e f).1 % 2 = f.1 := by simp only [inCol]; omega
  have h3 : (col b j).1 / 128 = b.1 := by simp only [col]; omega
  have h4 : (col b j).1 % 128 = j.1 := by simp only [col]; omega
  pointwise [kron]
  simp only [h1, h2, h3, h4]

theorem kron_apply (e : Fin 32) (f : Fin 2) (b : Fin 32) (j : Fin 128) :
    (StableHlo.after hostOps1 σ (Proc.devRef .tc main_call0_v10) (ix2 (inCol e f) (col b j)) : EReal)
      = (if e = b then 1 else 0) * (show EReal from σ (Proc.devRef .tc main_arg2) (ix2 f j)) := by
  have h : StableHlo.after hostOps1 σ (Proc.devRef .tc main_call0_v10) = kron (σ (Proc.devRef .tc main_arg2)) := by
    entry_read
    rfl
  rw [h]
  exact kron_mul _ e f b j

/-- A bias repeated for every batch element. -/
def tile (v : FVec Ideal S128 .f32) : FVec Ideal S1x4096 .f32 :=
  broadcastInDim S1x4096 ![1] bcast_S4096_S1x4096_1 (shapeCast S4096 (broadcastInDim S32x128 ![0, 1] bcast_S1x128_S32x128_0_1
    (shapeCast S1x128 v shapeCasts_S128_S1x128)) shapeCasts_S32x128_S4096)

theorem tile_apply (v : FVec Ideal S128 .f32) (b : Fin 32) (j : Fin 128) : tile v (ix2 0 (col b j)) = v (ix1 j) := by
  have h4 : (col b j).1 % 128 = j.1 := by simp only [col]; omega
  pointwise [tile]
  simp only [h4]

theorem bias0_apply (b : Fin 32) (j : Fin 128) :
    StableHlo.after hostOps1 σ (Proc.devRef .tc main_call0_v14) (ix2 0 (col b j)) = σ (Proc.devRef .tc main_arg3) (ix1 j) := by
  have h : StableHlo.after hostOps1 σ (Proc.devRef .tc main_call0_v14) = tile (σ (Proc.devRef .tc main_arg3)) := by
    entry_read
    rfl
  rw [h]
  exact tile_apply _ b j

theorem bias1_apply (b : Fin 32) (j : Fin 128) :
    StableHlo.after hostOps1 σ (Proc.devRef .tc main_call0_v18) (ix2 0 (col b j)) = σ (Proc.devRef .tc main_arg5) (ix1 j) := by
  have h : StableHlo.after hostOps1 σ (Proc.devRef .tc main_call0_v18) = tile (σ (Proc.devRef .tc main_arg5)) := by
    entry_read
    rfl
  rw [h]
  exact tile_apply _ b j

/-- The recurrence's row `n·32+b` at a step is the convolution's node `n`, batch element `b`. -/
theorem seq_apply (t : Fin 12) (n : Fin 325) (b : Fin 32) (j : Fin 128) (r : Fin 10400) (hr : r.1 = n.1 * 32 + b.1) :
    StableHlo.after hostOps2 σ (Proc.devRef .tc main_call0_v20) (ix3 t r j)
      = σ (Proc.devRef .tc main_call0_v19) (ix3 t n (col b j)) := by
  have h : StableHlo.after hostOps2 σ (Proc.devRef .tc main_call0_v20)
      = shapeCast S12x10400x128 (σ (Proc.devRef .tc main_call0_v19) : FVec Ideal S12x325x4096 .f32) shapeCasts_S12x325x4096_S12x10400x128 := by
    entry_read
    rfl
  rw [h]
  obtain ⟨q, hq⟩ := r
  obtain rfl : q = n.1 * 32 + b.1 := hr
  have h3 : (n.1 * 32 + b.1) % 32 * 128 + j.1 = (col b j).1 := by simp only [col]; omega
  pointwise
  simp only [h3]

theorem result_apply (n : Fin 325) (b : Fin 32) (o : Fin 24) (r : Fin 10400) (hr : r.1 = n.1 * 32 + b.1) :
    StableHlo.after hostOps3 σ (Proc.devRef .tc main_v0) (ix3 b n o) = σ (Proc.devRef .tc main_call0_v27) (ix2 r o) := by
  have h : StableHlo.after hostOps3 σ (Proc.devRef .tc main_v0)
      = transpose S32x325x24 [1, 0, 2] (shapeCast S325x32x24 (σ (Proc.devRef .tc main_call0_v27) : FVec Ideal S10400x24 .f32)
          shapeCasts_S10400x24_S325x32x24) transposes_S325x32x24_S32x325x24_1_0_2 := by
    entry_read
    rfl
  obtain ⟨q, hq⟩ := r
  obtain rfl : q = n.1 * 32 + b.1 := hr
  rw [h]
  pointwise

/-- A transposed weight matrix. -/
def turn (w : FVec Ideal S512x128 .f32) : FVec Ideal S128x512 .f32 := transpose S128x512 [1, 0] w transposes_S512x128_S128x512_1_0

theorem turn_apply (w : FVec Ideal S512x128 .f32) (q : Fin 512) (k : Fin 128) : turn w (ix2 k q) = w (ix2 q k) := by
  pointwise [turn]

theorem wih0 : StableHlo.after hostOps2 σ (Proc.devRef .tc main_call0_v21) = turn (σ (Proc.devRef .tc main_arg10)) := by
  entry_read
  rfl

theorem whh0 : StableHlo.after hostOps2 σ (Proc.devRef .tc main_call0_v22) = turn (σ (Proc.devRef .tc main_arg11)) := by
  entry_read
  rfl

theorem wih1 : StableHlo.after hostOps2 σ (Proc.devRef .tc main_call0_v24) = turn (σ (Proc.devRef .tc main_arg14)) := by
  entry_read
  rfl

theorem whh1 : StableHlo.after hostOps2 σ (Proc.devRef .tc main_call0_v25) = turn (σ (Proc.devRef .tc main_arg15)) := by
  entry_read
  rfl

/-- The two biases of a layer, added. -/
def both (u v : FVec Ideal S512 .f32) : FVec Ideal S512 .f32 := addf u v

theorem both_apply (u v : FVec Ideal S512 .f32) (q : Fin 512) : (both u v (ix1 q) : EReal) = u (ix1 q) + v (ix1 q) := by
  pointwise [both]

theorem b0 : StableHlo.after hostOps2 σ (Proc.devRef .tc main_call0_v23)
    = both (σ (Proc.devRef .tc main_arg12)) (σ (Proc.devRef .tc main_arg13)) := by
  entry_read
  rfl

theorem b1 : StableHlo.after hostOps2 σ (Proc.devRef .tc main_call0_v26)
    = both (σ (Proc.devRef .tc main_arg16)) (σ (Proc.devRef .tc main_arg17)) := by
  entry_read
  rfl

end Cert.KernelIdeal.Host
-- ==== Proof.KernelCell.lean ====
/- The kernel's LSTM cell on a block of rows, as vector operations, and what it computes on each row. -/
module

public import proofs.«01_k».proof.Proof.Gen.KernelIdeal.Skeleton
public import proofs.«01_k».proof.Proof.Gen.KernelIdeal
public import proofs.«01_k».proof.Proof.Spec

@[expose] public section

set_option maxRecDepth 16384

noncomputable section

namespace Cert.KernelIdeal.Lstm

open Cert.KernelIdeal Cert.KernelIdeal.Gen
open Idealize.ShloMosaic Idealize.ShloMosaic.TcCoe

section Vectors

variable {F : FTy → Type} [FloatOps F]

/-- The four gates' values, from scaled weights and a scaled bias. -/
def gates (w wh : FVec F S128x512 .f32) (b : FVec F S1x512 .f32) (x h : FVec F S2080x128 .f32) : FVec F S2080x512 .f32 :=
  tanh (addf (addf (matmul dot_S2080x128_S128x512_S2080x512_1_0_0_1_n_n none x w (constant S2080x512 .f32 0x00000000#32))
    (matmul dot_S2080x128_S128x512_S2080x512_1_0_0_1_n_n none h wh (constant S2080x512 .f32 0x00000000#32)))
    (broadcastTo S2080x512 b broadcasts_S1x512_S2080x512))

/-- Half, in every entry. -/
def half : FVec F S2080x128 .f32 := broadcast S2080x128 (Scalar.ofBits .f32 0x3F000000#32)

/-- The next cell contents from the gates' values. -/
def nextC (g : FVec F S2080x512 .f32) (c : FVec F S2080x128 .f32) : FVec F S2080x128 .f32 :=
  addf (mulf (addf half (mulf half (extractStridedSlice S2080x128 ![0, 128] g slices_S2080x512_o0_128_S2080x128))) c)
    (mulf (addf half (mulf half (extractStridedSlice S2080x128 ![0, 0] g slices_S2080x512_o0_0_S2080x128)))
      (extractStridedSlice S2080x128 ![0, 256] g slices_S2080x512_o0_256_S2080x128))

/-- The next hidden state from the gates' values and the next cell contents. -/
def nextH (g : FVec F S2080x512 .f32) (c' : FVec F S2080x128 .f32) : FVec F S2080x128 .f32 :=
  mulf (addf half (mulf half (extractStridedSlice S2080x128 ![0, 384] g slices_S2080x512_o0_384_S2080x128))) (tanh c')

/-- One layer's next cell contents. -/
def cC (w wh : FVec F S128x512 .f32) (b : FVec F S1x512 .f32) (x h c : FVec F S2080x128 .f32) : FVec F S2080x128 .f32 :=
  nextC (gates w wh b x h) c

/-- One layer's next hidden state. -/
def cH (w wh : FVec F S128x512 .f32) (b : FVec F S1x512 .f32) (x h c : FVec F S2080x128 .f32) : FVec F S2080x128 .f32 :=
  nextH (gates w wh b x h) (cC w wh b x h c)

end Vectors

/-- Row `r` of a block. -/
def row {n : ℕ} (x : FVec Ideal ⟨2, ![n, 128]⟩ .f32) (r : Fin n) : Fin 128 → EReal := fun k => x (ix2 r k)

/-- The gates' scale: one for the candidate, half for the others. -/
def scale (q : Fin 512) : ℝ := if 256 ≤ q.1 ∧ q.1 < 384 then 1 else 1 / 2

theorem scale_nonneg (q : Fin 512) : 0 ≤ scale q := by
  unfold scale; split <;> norm_num

theorem mask : ∀ q : Fin 512,
    IntOp.andi (IntOp.cmpi CmpIPredicate.sge (BitVec.ofNat 32 q.1) 256#32) (IntOp.cmpi CmpIPredicate.slt (BitVec.ofNat 32 q.1) 384#32)
      = if 256 ≤ q.1 ∧ q.1 < 384 then 1#1 else 0#1 := by
  decide +kernel

theorem pay1_apply (q : Fin 512) : k2_pay1 (F := Ideal) (ix2 0 q) = ((scale q : ℝ) : EReal) := by
  pointwise [k2_pay1]
  rw [mask, Spec.half_bits]
  unfold scale
  split <;> simp [Scalar.select]

/-- The gates on a row: the hyperbolic tangent of the scaled argument. -/
theorem gates_apply (w wh : FVec Ideal S128x512 .f32) (b : FVec Ideal S512 .f32) (bi bh : Fin 512 → EReal)
    (hb : ∀ q, b (ix1 q) = bi q + bh q) (x h : FVec Ideal S2080x128 .f32) (r : Fin 2080) (q : Fin 512) :
    gates (k2_pay2 w) (k2_pay3 wh) (k2_pay6 b) x h (ix2 r q)
      = Ideal.tanh (((scale q : ℝ) : EReal)
          * Spec.gate (fun q k => w (ix2 k q)) (fun q k => wh (ix2 k q)) bi bh (row x r) (row h r) q) := by
  pointwise [gates, k2_pay2, k2_pay3, k2_pay6, pay1_apply]
  rw [hb, Spec.gate_scale _ (scale_nonneg q)]
  rfl

theorem unit0 (j : Fin 128) (h) : (⟨j.1, h⟩ : Fin 512) = Spec.unit 0 j := Fin.ext (by simp [Spec.unit])

/-- The next cell contents at one entry. -/
theorem nextC_apply (g : FVec Ideal S2080x512 .f32) (c : FVec Ideal S2080x128 .f32) (r : Fin 2080) (j : Fin 128) :
    nextC g c (ix2 r j) = (((1 / 2 : ℝ) : EReal) + ((1 / 2 : ℝ) : EReal) * g (ix2 r (Spec.unit 1 j))) * c (ix2 r j)
      + (((1 / 2 : ℝ) : EReal) + ((1 / 2 : ℝ) : EReal) * g (ix2 r (Spec.unit 0 j))) * g (ix2 r (Spec.unit 2 j)) := by
  pointwise [nextC, half, Spec.half_bits]
  rw [unit0]
  rfl

/-- The next hidden state at one entry. -/
theorem nextH_apply (g : FVec Ideal S2080x512 .f32) (c : FVec Ideal S2080x128 .f32) (r : Fin 2080) (j : Fin 128) :
    nextH g c (ix2 r j) = (((1 / 2 : ℝ) : EReal) + ((1 / 2 : ℝ) : EReal) * g (ix2 r (Spec.unit 3 j))) * Ideal.tanh (c (ix2 r j)) := by
  pointwise [nextH, half, Spec.half_bits]
  rfl

theorem scale_half (g : Fin 4) (hg : g ≠ 2) (j : Fin 128) : scale (Spec.unit g j) = 1 / 2 := by
  unfold scale Spec.unit
  have := j.isLt
  have : g.1 ≠ 2 := fun e => hg (Fin.ext e)
  rw [if_neg (by simp only; omega)]

theorem scale_one (j : Fin 128) : scale (Spec.unit 2 j) = 1 := by
  unfold scale Spec.unit
  have := j.isLt
  have e : ((2 : Fin 4) : ℕ) = 2 := rfl
  rw [if_pos (by simp only [e]; omega)]

section Rows

variable (w wh : FVec Ideal S128x512 .f32) (b : FVec Ideal S512 .f32) (bi bh : Fin 512 → EReal)
  (hb : ∀ q, b (ix1 q) = bi q + bh q) (x h c : FVec Ideal S2080x128 .f32) (r : Fin 2080)

/-- The layer whose transposed weights and total bias a block of the kernel holds. -/
def layer : Spec.Layer := ⟨fun q k => w (ix2 k q), fun q k => wh (ix2 k q), bi, bh⟩

include hb in
theorem sigma_apply (g : Fin 4) (hg : g ≠ 2) (j : Fin 128) :
    ((1 / 2 : ℝ) : EReal) + ((1 / 2 : ℝ) : EReal) * gates (k2_pay2 w) (k2_pay3 wh) (k2_pay6 b) x h (ix2 r (Spec.unit g j))
      = Ideal.logistic (Spec.gate (fun q k => w (ix2 k q)) (fun q k => wh (ix2 k q)) bi bh (row x r) (row h r) (Spec.unit g j)) := by
  rw [gates_apply w wh b bi bh hb, scale_half g hg, Spec.half_tanh]

include hb in
theorem cand_apply (j : Fin 128) :
    gates (k2_pay2 w) (k2_pay3 wh) (k2_pay6 b) x h (ix2 r (Spec.unit 2 j))
      = Ideal.tanh (Spec.gate (fun q k => w (ix2 k q)) (fun q k => wh (ix2 k q)) bi bh (row x r) (row h r) (Spec.unit 2 j)) := by
  rw [gates_apply w wh b bi bh hb, scale_one, EReal.coe_one, one_mul]

include hb in
/-- The block's next cell contents, row by row. -/
theorem cC_row : row (cC (k2_pay2 w) (k2_pay3 wh) (k2_pay6 b) x h c) r
    = Spec.cellC (layer w wh bi bh) (row x r) (row h r) (row c r) := by
  funext j
  show cC (k2_pay2 w) (k2_pay3 wh) (k2_pay6 b) x h c (ix2 r j) = _
  unfold cC
  rw [nextC_apply, sigma_apply w wh b bi bh hb x h r 1 (by decide), sigma_apply w wh b bi bh hb x h r 0 (by decide),
    cand_apply w wh b bi bh hb]
  rfl

include hb in
/-- The block's next hidden state, row by row. -/
theorem cH_row : row (cH (k2_pay2 w) (k2_pay3 wh) (k2_pay6 b) x h c) r
    = Spec.cellH (layer w wh bi bh) (row x r) (row h r) (row c r) := by
  funext j
  show cH (k2_pay2 w) (k2_pay3 wh) (k2_pay6 b) x h c (ix2 r j) = _
  unfold cH
  rw [nextH_apply, sigma_apply w wh b bi bh hb x h r 3 (by decide)]
  have e := congrFun (cC_row w wh b bi bh hb x h c r) j
  rw [show cC (k2_pay2 w) (k2_pay3 wh) (k2_pay6 b) x h c (ix2 r j) = _ from e]
  rfl

end Rows

end Cert.KernelIdeal.Lstm

end
-- ==== Proof.KernelSteps.lean ====
/- The kernel's twelve LSTM steps on a block of rows: the values of its body are the steps of one recursion. -/
module

public import proofs.«01_k».proof.Proof.Gen.KernelIdeal.Frame
public import proofs.«01_k».proof.Proof.KernelCell
public import Idealize.ShloMosaic.Lib.Pipeline.ValueKit

@[expose] public section

set_option maxRecDepth 16384

noncomputable section

namespace Cert.KernelIdeal.Lstm

open Cert.KernelIdeal Cert.KernelIdeal.Gen
open Idealize.ShloMosaic Idealize.ShloMosaic.TcCoe

variable {F : FTy → Type} [FloatOps F]

/-- Both layers' states of a block of rows. -/
structure Block (F : FTy → Type) [FloatOps F] where
  h0 : FVec F S2080x128 .f32
  c0 : FVec F S2080x128 .f32
  h1 : FVec F S2080x128 .f32
  c1 : FVec F S2080x128 .f32

/-- One step of both layers on a block's input. -/
def bstep (w0 v0 : FVec F S128x512 .f32) (b0 : FVec F S1x512 .f32) (w1 v1 : FVec F S128x512 .f32) (b1 : FVec F S1x512 .f32)
    (x : FVec F S2080x128 .f32) (s : Block F) : Block F where
  h0 := cH w0 v0 b0 x s.h0 s.c0
  c0 := cC w0 v0 b0 x s.h0 s.c0
  h1 := cH w1 v1 b1 (cH w0 v0 b0 x s.h0 s.c0) s.h1 s.c1
  c1 := cC w1 v1 b1 (cH w0 v0 b0 x s.h0 s.c0) s.h1 s.c1

/-- The block's input at step `t`: the body's `t`-th load. -/
def xin (x0 : Vec F S12x2080x128 .f32) : ℕ → Vec F S1x2080x128 .f32
  | 0 => View.ld x0 r2_2
  | 1 => View.ld x0 r2_3
  | 2 => View.ld x0 r2_4
  | 3 => View.ld x0 r2_5
  | 4 => View.ld x0 r2_6
  | 5 => View.ld x0 r2_7
  | 6 => View.ld x0 r2_8
  | 7 => View.ld x0 r2_9
  | 8 => View.ld x0 r2_10
  | 9 => View.ld x0 r2_11
  | 10 => View.ld x0 r2_12
  | _ => View.ld x0 r2_13

variable (x0 : Vec F S12x2080x128 .f32) (x1 x2 : Vec F S128x512 .f32) (x3 : Vec F S512 .f32) (x4 x5 : Vec F S128x512 .f32)
  (x6 : Vec F S512 .f32) (x7 : Vec F S128x24 .f32) (x8 : Vec F S24 .f32)

/-- The block's states after `n` steps. -/
def brun : ℕ → Block F
  | 0 => ⟨k2_pay8, k2_pay8, k2_pay8, k2_pay8⟩
  | n + 1 => bstep (k2_pay2 (View.ld x1 r2_0)) (k2_pay3 (View.ld x2 r2_0)) (k2_pay6 (View.ld x3 r2_1))
      (k2_pay2 (View.ld x4 r2_0)) (k2_pay3 (View.ld x5 r2_0)) (k2_pay6 (View.ld x6 r2_1))
      (shapeCast S2080x128 (xin x0 n) shapeCasts_S1x2080x128_S2080x128) (brun n)

theorem brun_1 : brun x0 x1 x2 x3 x4 x5 x6 1 =
    ⟨k2_pay107 x0 x1 x2 x3 x4 x5 x6 x7 x8,
      k2_pay106 x0 x1 x2 x3 x4 x5 x6 x7 x8,
      mulf (k2_pay111 x0 x1 x2 x3 x4 x5 x6 x7 x8) (tanh (k2_pay112 x0 x1 x2 x3 x4 x5 x6 x7 x8)),
      k2_pay112 x0 x1 x2 x3 x4 x5 x6 x7 x8⟩ := by
  rfl

theorem brun_2 : brun x0 x1 x2 x3 x4 x5 x6 2 =
    ⟨k2_pay114 x0 x1 x2 x3 x4 x5 x6 x7 x8,
      k2_pay113 x0 x1 x2 x3 x4 x5 x6 x7 x8,
      k2_pay118 x0 x1 x2 x3 x4 x5 x6 x7 x8,
      k2_pay117 x0 x1 x2 x3 x4 x5 x6 x7 x8⟩ := by
  rw [brun, brun_1 x0 x1 x2 x3 x4 x5 x6 x7 x8]; rfl

theorem brun_3 : brun x0 x1 x2 x3 x4 x5 x6 3 =
    ⟨k2_pay120 x0 x1 x2 x3 x4 x5 x6 x7 x8,
      k2_pay119 x0 x1 x2 x3 x4 x5 x6 x7 x8,
      k2_pay122 x0 x1 x2 x3 x4 x5 x6 x7 x8,
      k2_pay121 x0 x1 x2 x3 x4 x5 x6 x7 x8⟩ := by
  rw [brun, brun_2 x0 x1 x2 x3 x4 x5 x6 x7 x8]; rfl

theorem brun_4 : brun x0 x1 x2 x3 x4 x5 x6 4 =
    ⟨k2_pay36 (k2_pay119 x0 x1 x2 x3 x4 x5 x6 x7 x8) (k2_pay123 x0 x1 x2 x3 x4 x5 x6 x7 x8) (k2_pay124 x0 x1 x2 x3 x4 x5 x6 x7 x8) (k2_pay125 x0 x1 x2 x3 x4 x5 x6 x7 x8) (Scalar.ofBits .f32 0x3F000000#32),
      k2_pay126 x0 x1 x2 x3 x4 x5 x6 x7 x8,
      k2_pay128 x0 x1 x2 x3 x4 x5 x6 x7 x8,
      k2_pay127 x0 x1 x2 x3 x4 x5 x6 x7 x8⟩ := by
  rw [brun, brun_3 x0 x1 x2 x3 x4 x5 x6 x7 x8]; rfl

theorem brun_5 : brun x0 x1 x2 x3 x4 x5 x6 5 =
    ⟨k2_pay131 x0 x1 x2 x3 x4 x5 x6 x7 x8,
      k2_pay130 x0 x1 x2 x3 x4 x5 x6 x7 x8,
      mulf (k2_pay135 x0 x1 x2 x3 x4 x5 x6 x7 x8) (tanh (k2_pay136 x0 x1 x2 x3 x4 x5 x6 x7 x8)),
      k2_pay136 x0 x1 x2 x3 x4 x5 x6 x7 x8⟩ := by
  rw [brun, brun_4 x0 x1 x2 x3 x4 x5 x6 x7 x8]; rfl

theorem brun_6 : brun x0 x1 x2 x3 x4 x5 x6 6 =
    ⟨k2_pay138 x0 x1 x2 x3 x4 x5 x6 x7 x8,
      k2_pay137 x0 x1 x2 x3 x4 x5 x6 x7 x8,
      k2_pay142 x0 x1 x2 x3 x4 x5 x6 x7 x8,
      k2_pay141 x0 x1 x2 x3 x4 x5 x6 x7 x8⟩ := by
  rw [brun, brun_5 x0 x1 x2 x3 x4 x5 x6 x7 x8]; rfl

theorem brun_7 : brun x0 x1 x2 x3 x4 x5 x6 7 =
    ⟨k2_pay144 x0 x1 x2 x3 x4 x5 x6 x7 x8,
      k2_pay143 x0 x1 x2 x3 x4 x5 x6 x7 x8,
      k2_pay146 x0 x1 x2 x3 x4 x5 x6 x7 x8,
      k2_pay145 x0 x1 x2 x3 x4 x5 x6 x7 x8⟩ := by
  rw [brun, brun_6 x0 x1 x2 x3 x4 x5 x6 x7 x8]; rfl

theorem brun_8 : brun x0 x1 x2 x3 x4 x5 x6 8 =
    ⟨k2_pay67 (k2_pay143 x0 x1 x2 x3 x4 x5 x6 x7 x8) (k2_pay147 x0 x1 x2 x3 x4 x5 x6 x7 x8) (k2_pay148 x0 x1 x2 x3 x4 x5 x6 x7 x8) (k2_pay149 x0 x1 x2 x3 x4 x5 x6 x7 x8) (Scalar.ofBits .f32 0x3F000000#32),
      k2_pay150 x0 x1 x2 x3 x4 x5 x6 x7 x8,
      k2_pay152 x0 x1 x2 x3 x4 x5 x6 x7 x8,
      k2_pay151 x0 x1 x2 x3 x4 x5 x6 x7 x8⟩ := by
  rw [brun, brun_7 x0 x1 x2 x3 x4 x5 x6 x7 x8]; rfl

theorem brun_9 : brun x0 x1 x2 x3 x4 x5 x6 9 =
    ⟨k2_pay155 x0 x1 x2 x3 x4 x5 x6 x7 x8,
      k2_pay154 x0 x1 x2 x3 x4 x5 x6 x7 x8,
      mulf (k2_pay159 x0 x1 x2 x3 x4 x5 x6 x7 x8) (tanh (k2_pay160 x0 x1 x2 x3 x4 x5 x6 x7 x8)),
      k2_pay160 x0 x1 x2 x3 x4 x5 x6 x7 x8⟩ := by
  rw [brun, brun_8 x0 x1 x2 x3 x4 x5 x6 x7 x8]; rfl

theorem brun_10 : brun x0 x1 x2 x3 x4 x5 x6 10 =
    ⟨k2_pay162 x0 x1 x2 x3 x4 x5 x6 x7 x8,
      k2_pay161 x0 x1 x2 x3 x4 x5 x6 x7 x8,
      k2_pay166 x0 x1 x2 x3 x4 x5 x6 x7 x8,
      k2_pay165 x0 x1 x2 x3 x4 x5 x6 x7 x8⟩ := by
  rw [brun, brun_9 x0 x1 x2 x3 x4 x5 x6 x7 x8]; rfl

/-- The output layer on a block. -/
def predB (h : FVec F S2080x128 .f32) (wo : Vec F S128x24 .f32) (bo : Vec F S24 .f32) : FVec F S2080x24 .f32 :=
  addf (matmul dot_S2080x128_S128x24_S2080x24_1_0_0_1_n_n none h wo (constant S2080x24 .f32 0x00000000#32))
    (broadcastTo S2080x24 (shapeCast S1x24 bo shapeCasts_S24_S1x24) broadcasts_S1x24_S2080x24)

/-- What the body stores is the output layer of the second layer's state after twelve steps. -/
theorem out_eq : out2_9 x0 x1 x2 x3 x4 x5 x6 x7 x8 = predB (brun x0 x1 x2 x3 x4 x5 x6 12).h1 x7 x8 := by
  rw [out2_9, View.canon_cons_unit_lit _ _ _ (by decide), brun, brun, brun_10 x0 x1 x2 x3 x4 x5 x6 x7 x8,
    show View.ld x7 r2_14 = x7 from View.ld_unit_lit _ _ (by decide), show View.ld x8 r2_15 = x8 from View.ld_unit_lit _ _ (by decide)]
  rfl

section Rows

/-- Row `r` of a block's states. -/
def Block.row (s : Block Ideal) (r : Fin 2080) : Spec.State := ⟨Lstm.row s.h0 r, Lstm.row s.c0 r, Lstm.row s.h1 r, Lstm.row s.c1 r⟩

variable (x0 : Vec Ideal S12x2080x128 .f32) (x1 x2 : Vec Ideal S128x512 .f32) (x3 : Vec Ideal S512 .f32) (x4 x5 : Vec Ideal S128x512 .f32)
  (x6 : Vec Ideal S512 .f32) (x7 : Vec Ideal S128x24 .f32) (x8 : Vec Ideal S24 .f32) (r : Fin 2080)

/-- A row of the block's input at step `t`. -/
theorem xin_row (t : ℕ) (ht : t < 12) :
    Lstm.row (shapeCast S2080x128 (xin x0 t) shapeCasts_S1x2080x128_S2080x128) r = fun k => x0 (ix3 ⟨t, ht⟩ r k) := by
  funext k
  show shapeCast S2080x128 (xin x0 t) shapeCasts_S1x2080x128_S2080x128 (ix2 r k) = _
  interval_cases t <;> pointwise [xin] <;> rfl

variable (bi0 bh0 bi1 bh1 : Fin 512 → EReal) (hb0 : ∀ q : Fin 512, x3 (ix1 q) = bi0 q + bh0 q) (hb1 : ∀ q : Fin 512, x6 (ix1 q) = bi1 q + bh1 q)

include hb0 hb1 in
/-- The block's recursion, row by row. -/
theorem brun_row (n : ℕ) (hn : n ≤ 12) : (brun x0 x1 x2 x3 x4 x5 x6 n).row r
    = Spec.run (layer x1 x2 bi0 bh0) (layer x4 x5 bi1 bh1) (fun t k => x0 (ix3 ⟨t % 12, Nat.mod_lt _ (by decide)⟩ r k)) n := by
  induction n with
  | zero =>
    have z : Lstm.row (k2_pay8 (F := Ideal)) r = fun _ => 0 := by
      funext k
      show k2_pay8 (F := Ideal) (ix2 r k) = _
      pointwise [k2_pay8]
    unfold brun Block.row Spec.run
    simp only [z]
  | succ n ih =>
    rw [brun, Spec.run, ← ih (by omega), show (fun k => x0 (ix3 ⟨n % 12, _⟩ r k)) = _ from
      (by simp only [Nat.mod_eq_of_lt (show n < 12 by omega)] : _ = fun k => x0 (ix3 ⟨n, by omega⟩ r k)),
      ← xin_row x0 r n (by omega)]
    rw [show View.ld x1 r2_0 = x1 from View.ld_unit_lit _ _ (by decide), show View.ld x2 r2_0 = x2 from View.ld_unit_lit _ _ (by decide),
      show View.ld x3 r2_1 = x3 from View.ld_unit_lit _ _ (by decide), show View.ld x4 r2_0 = x4 from View.ld_unit_lit _ _ (by decide),
      show View.ld x5 r2_0 = x5 from View.ld_unit_lit _ _ (by decide), show View.ld x6 r2_1 = x6 from View.ld_unit_lit _ _ (by decide)]
    unfold bstep Block.row Spec.step
    simp only [cH_row x1 x2 x3 bi0 bh0 hb0, cC_row x1 x2 x3 bi0 bh0 hb0, cH_row x4 x5 x6 bi1 bh1 hb1, cC_row x4 x5 x6 bi1 bh1 hb1]

include hb0 hb1 in
/-- What the body stores at one entry. -/
theorem out_apply (o : Fin 24) : out2_9 x0 x1 x2 x3 x4 x5 x6 x7 x8 (ix2 r o)
    = Spec.head (fun k o => x7 (ix2 k o)) (fun o => x8 (ix1 o))
        (Spec.run (layer x1 x2 bi0 bh0) (layer x4 x5 bi1 bh1) (fun t k => x0 (ix3 ⟨t % 12, Nat.mod_lt _ (by decide)⟩ r k)) 12).h1 o := by
  rw [out_eq, ← brun_row x0 x1 x2 x3 x4 x5 x6 r bi0 bh0 bi1 bh1 hb0 hb1 12 le_rfl]
  generalize brun x0 x1 x2 x3 x4 x5 x6 12 = s
  pointwise [predB]
  rfl

end Rows

end Cert.KernelIdeal.Lstm

end
-- ==== Proof.KernelValue.lean ====
/- The kernel's result array, from the launch contents: each call's output array at an index. -/
module

public import proofs.«01_k».proof.Proof.KernelHost
public import proofs.«01_k».proof.Proof.KernelAdj
public import proofs.«01_k».proof.Proof.KernelSteps

@[expose] public section

set_option maxRecDepth 16384

noncomputable section

namespace Cert.KernelIdeal.Whole

open Cert.KernelIdeal Cert.KernelIdeal.Gen Cert.Gcn
open Cert.KernelIdeal.Gcn (col inCol)
open Idealize.ShloMosaic Idealize.ShloMosaic.TcCoe Idealize.ShloMosaic.Tactic

theorem idx0 : ∀ t : Fin cfg0.N, win0_0.index t = ![0, 0] ∧ win0_1.index t = ![0, 0] :=
  (by decide +kernel : ∀ t : Fin grid0.N, _)

theorem idx1 : ∀ t : Fin cfg1.N, win1_0.index t = ![t.val, 0, 0] ∧ win1_1.index t = ![0, 0] ∧ win1_2.index t = ![0, 0]
    ∧ win1_3.index t = ![0, 0] ∧ win1_4.index t = ![0, 0] ∧ win1_5.index t = ![0, 0] ∧ win1_6.index t = ![0] ∧ win1_7.index t = ![0]
    ∧ win1_8.index t = ![0] ∧ win1_9.index t = ![0] ∧ win1_10.index t = ![t.val, 0, 0] :=
  (by decide +kernel : ∀ t : Fin grid1.N, _)

theorem idx2 : ∀ t : Fin cfg2.N, win2_0.index t = ![0, t.val, 0] ∧ win2_1.index t = ![0, 0] ∧ win2_2.index t = ![0, 0]
    ∧ win2_3.index t = ![0] ∧ win2_4.index t = ![0, 0] ∧ win2_5.index t = ![0, 0] ∧ win2_6.index t = ![0] ∧ win2_7.index t = ![0, 0]
    ∧ win2_8.index t = ![0] ∧ win2_9.index t = ![t.val, 0] :=
  (by decide +kernel : ∀ t : Fin grid2.N, _)

variable (V : (c : Dev nD) → (b : Ref sig .tc) → Buf (Elt Ideal) ((c : Thread nD τ).loc b)) (c : Dev nD)

theorem blk1_1 (t : Fin cfg1.N) : iblk1 V c 1 t = V c main_call0_v1 := by blk_ext! [iblk1, idx1 t]
theorem blk1_2 (t : Fin cfg1.N) : iblk1 V c 2 t = V c main_call0_v10 := by blk_ext! [iblk1, idx1 t]
theorem blk1_3 (t : Fin cfg1.N) : iblk1 V c 3 t = V c main_call0_v14 := by blk_ext! [iblk1, idx1 t]
theorem blk1_4 (t : Fin cfg1.N) : iblk1 V c 4 t = V c main_arg4 := by blk_ext! [iblk1, idx1 t]
theorem blk1_5 (t : Fin cfg1.N) : iblk1 V c 5 t = V c main_call0_v18 := by blk_ext! [iblk1, idx1 t]
theorem blk1_6 (t : Fin cfg1.N) : iblk1 V c 6 t = V c main_arg6 := by blk_ext! [iblk1, idx1 t]
theorem blk1_7 (t : Fin cfg1.N) : iblk1 V c 7 t = V c main_arg7 := by blk_ext! [iblk1, idx1 t]
theorem blk1_8 (t : Fin cfg1.N) : iblk1 V c 8 t = V c main_arg8 := by blk_ext! [iblk1, idx1 t]
theorem blk1_9 (t : Fin cfg1.N) : iblk1 V c 9 t = V c main_arg9 := by blk_ext! [iblk1, idx1 t]
theorem blk2_1 (t : Fin cfg2.N) : iblk2 V c 1 t = V c main_call0_v21 := by blk_ext! [iblk2, idx2 t]
theorem blk2_2 (t : Fin cfg2.N) : iblk2 V c 2 t = V c main_call0_v22 := by blk_ext! [iblk2, idx2 t]
theorem blk2_3 (t : Fin cfg2.N) : iblk2 V c 3 t = V c main_call0_v23 := by blk_ext! [iblk2, idx2 t]
theorem blk2_4 (t : Fin cfg2.N) : iblk2 V c 4 t = V c main_call0_v24 := by blk_ext! [iblk2, idx2 t]
theorem blk2_5 (t : Fin cfg2.N) : iblk2 V c 5 t = V c main_call0_v25 := by blk_ext! [iblk2, idx2 t]
theorem blk2_6 (t : Fin cfg2.N) : iblk2 V c 6 t = V c main_call0_v26 := by blk_ext! [iblk2, idx2 t]
theorem blk2_7 (t : Fin cfg2.N) : iblk2 V c 7 t = V c main_arg18 := by blk_ext! [iblk2, idx2 t]
theorem blk2_8 (t : Fin cfg2.N) : iblk2 V c 8 t = V c main_arg19 := by blk_ext! [iblk2, idx2 t]

theorem step_at (t : Fin cfg1.N) (ht : t.1 < 12) (n : Fin 325) (q : Fin 64) :
    (show FVec Ideal S1x325x64 .f32 from iblk1 V c 0 t) (ix3 0 n q) = V c main_call0_v3 (ix3 ⟨t.1, ht⟩ n q) := by
  blk_ext [iblk1, idx1 t]

theorem rows_at (t : Fin cfg2.N) (u : Fin 12) (r : Fin 2080) (k : Fin 128) (h : t.1 * 2080 + r.1 < 10400) :
    (show FVec Ideal S12x2080x128 .f32 from iblk2 V c 0 t) (ix3 u r k) = V c main_call0_v20 (ix3 u ⟨t.1 * 2080 + r.1, h⟩ k) := by
  blk_ext [iblk2, idx2 t]

/-- The first call leaves the weighted adjacency matrix. -/
theorem arr0 (s d : Fin 2600 → Fin 325)
    (h0 : ∀ k, V c main_call0_v0 (ix2 k 0) = BitVec.ofNat 32 (s k).1) (h1 : ∀ k, V c main_call0_v0 (ix2 k 1) = BitVec.ofNat 32 (d k).1)
    (n m : Fin 325) : ((dat0 V c).arrAt 1 cfg0.N (ix2 n m) : EReal) = ((adj s d n m : ℝ) : EReal) := by
  refine (congrFun (Pipeline.Dat.arrAt_eq_of_covers (dat0 V c) 1 (fun i => ((adj s d (i 0) (i 1) : ℝ) : EReal)) (by decide +kernel)
    fun t hf y => ?_) (ix2 n m))
  blk_simp
  rw [after0_1]
  have hi : iblk0 V c 0 t = V c main_call0_v0 := by blk_ext! [iblk0, idx0 t]
  have hy : (win0_1.blk t).view.emb y = y := by blk_ext [idx0 t]
  rw [hi, hy]
  have h := Adj.out_apply s d (V c main_call0_v0) h0 h1 (y 0) (y 1)
  have e : (ix2 (y 0) (y 1) : S325x325.Idx) = y := by blk_ext
  rw [e] at h
  exact h

section conv
variable (s d : Fin 2600 → Fin 325) (X : Fin 32 → Fin 12 → Fin 325 → Fin 2 → ℝ) (W : Fin 2 → Fin 128 → ℝ) (C : Fin 128 → ℝ)
  (W1 : Fin 128 → Fin 128 → ℝ) (C1 G B G1 : Fin 128 → ℝ)

/-- Both convolution layers, at the second call's output index. -/
def conv (be1 : Fin 128 → EReal) (i : S12x325x4096.Idx) : EReal :=
  Cert.Gcn.out s d (fun b n f => X b (i 0) n f) W C G B W1 C1 G1 be1
    ⟨(i 2).1 / 128, by have := (i 2).2; change (i 2).1 < 4096 at this; omega⟩ (i 1) ⟨(i 2).1 % 128, Nat.mod_lt _ (by decide)⟩

theorem conv_apply (be1 : Fin 128 → EReal) (t : Fin 12) (n : Fin 325) (b : Fin 32) (j : Fin 128) :
    conv s d X W C W1 C1 G B G1 be1 (ix3 t n (col b j)) = Cert.Gcn.out s d (fun b n f => X b t n f) W C G B W1 C1 G1 be1 b n j := by
  have h1 : (⟨(col b j).1 / 128, by have := (col b j).2; omega⟩ : Fin 32) = b := Fin.ext (by simp only [col]; omega)
  have h2 : (⟨(col b j).1 % 128, Nat.mod_lt _ (by decide)⟩ : Fin 128) = j := Fin.ext (by simp only [col]; omega)
  show Cert.Gcn.out s d (fun b n f => X b t n f) W C G B W1 C1 G1 be1 ⟨(col b j).1 / 128, _⟩ n ⟨(col b j).1 % 128, _⟩ = _
  rw [h1, h2]

theorem lane_split (y : S1x325x4096.Idx) (q : Fin 4096) (hq : y 2 = q) :
    (ix3 0 (y 1) (col ⟨q.1 / 128, by omega⟩ ⟨q.1 % 128, by omega⟩) : S1x325x4096.Idx) = y := by
  idx_vars y
  have h : col ⟨q.1 / 128, by omega⟩ ⟨q.1 % 128, by omega⟩ = q := Fin.ext (by simp only [col]; omega)
  rw [h]
  subst hq
  blk_ext

/-- The block's value at one step, at any of its indices. -/
theorem point1 {a : FVec Ideal S325x325 .f32} {x : FVec Ideal S1x325x64 .f32} {w : FVec Ideal S64x4096 .f32} {c : FVec Ideal S1x4096 .f32}
    {w1 : FVec Ideal S128x128 .f32} {c1 : FVec Ideal S1x4096 .f32} {g be g1 be1 : FVec Ideal S128 .f32} {t : Fin 12}
    (hx : ∀ n b f, x (ix3 0 n (inCol b f)) = ((X b t n f : ℝ) : EReal))
    (ha : ∀ n m, a (ix2 n m) = ((adj s d n m : ℝ) : EReal))
    (hw : ∀ e f b j, w (ix2 (inCol e f) (col b j)) = (((if e = b then W f j else 0 : ℝ)) : EReal))
    (hc : ∀ b j, c (ix2 0 (col b j)) = ((C j : ℝ) : EReal))
    (hw1 : ∀ f j, w1 (ix2 f j) = ((W1 f j : ℝ) : EReal)) (hc1 : ∀ b j, c1 (ix2 0 (col b j)) = ((C1 j : ℝ) : EReal))
    (hg : ∀ j, g (ix1 j) = ((G j : ℝ) : EReal)) (hbe : ∀ j, be (ix1 j) = ((B j : ℝ) : EReal))
    (hg1 : ∀ j, g1 (ix1 j) = ((G1 j : ℝ) : EReal)) (y : S1x325x4096.Idx) :
    (out1_10 (F := Ideal) x a w c w1 c1 g be g1 be1 y : EReal)
      = conv s d X W C W1 C1 G B G1 (fun j => be1 (ix1 j)) (ix3 t (y 1) (y 2)) := by
  have h := Gcn.out_apply s d ha hx hw hc hw1 hc1 hg hbe hg1 (be1 := be1) (y 1) ⟨(y 2).1 / 128, by have := (y 2).2; change (y 2).1 < 4096 at this; omega⟩
    ⟨(y 2).1 % 128, Nat.mod_lt _ (by decide)⟩
  rw [lane_split y (y 2) rfl] at h
  exact h

set_option maxHeartbeats 1600000 in
/-- The second call leaves both convolution layers at every time step. -/
theorem arr1
    (hx : ∀ t n b f, V c main_call0_v3 (ix3 t n (inCol b f)) = ((X b t n f : ℝ) : EReal))
    (ha : ∀ n m, V c main_call0_v1 (ix2 n m) = ((adj s d n m : ℝ) : EReal))
    (hw : ∀ e f b j, V c main_call0_v10 (ix2 (inCol e f) (col b j)) = (((if e = b then W f j else 0 : ℝ)) : EReal))
    (hc : ∀ b j, V c main_call0_v14 (ix2 0 (col b j)) = ((C j : ℝ) : EReal))
    (hw1 : ∀ f j, V c main_arg4 (ix2 f j) = ((W1 f j : ℝ) : EReal))
    (hc1 : ∀ b j, V c main_call0_v18 (ix2 0 (col b j)) = ((C1 j : ℝ) : EReal))
    (hg : ∀ j, V c main_arg6 (ix1 j) = ((G j : ℝ) : EReal))
    (hbe : ∀ j, V c main_arg7 (ix1 j) = ((B j : ℝ) : EReal))
    (hg1 : ∀ j, V c main_arg8 (ix1 j) = ((G1 j : ℝ) : EReal))
    (t : Fin 12) (n : Fin 325) (b : Fin 32) (j : Fin 128) :
    ((dat1 V c).arrAt 10 cfg1.N (ix3 t n (col b j)) : EReal)
      = Cert.Gcn.out s d (fun b n f => X b t n f) W C G B W1 C1 G1 (fun j => V c main_arg9 (ix1 j)) b n j := by
  have key := congrFun (Pipeline.Dat.arrAt_eq_of_covers (dat1 V c) 10 (conv s d X W C W1 C1 G B G1 (fun j => V c main_arg9 (ix1 j)))
    (by decide +kernel) fun t hf y => ?_) (ix3 t n (col b j))
  · exact key.trans (conv_apply s d X W C W1 C1 G B G1 _ t n b j)
  · blk_simp
    rw [after1_10]
    have ht : t.1 < 12 := t.2
    have hy : (win1_10.blk t).view.emb y = ix3 ⟨t.1, ht⟩ (y 1) (y 2) := by blk_ext [idx1 t]
    rw [hy, blk1_1, blk1_2, blk1_3, blk1_4, blk1_5, blk1_6, blk1_7, blk1_8, blk1_9]
    exact point1 s d X W C W1 C1 G B G1 (fun n b f => (step_at V c t ht n (inCol b f)).trans (hx ⟨t.1, ht⟩ n b f)) ha hw hc hw1 hc1 hg hbe hg1 y

end conv

section rec
variable (x1 x2 : Vec Ideal S128x512 .f32) (x3 : Vec Ideal S512 .f32) (x4 x5 : Vec Ideal S128x512 .f32)
  (x6 : Vec Ideal S512 .f32) (x7 : Vec Ideal S128x24 .f32) (x8 : Vec Ideal S24 .f32) (bi0 bh0 bi1 bh1 : Fin 512 → EReal)

/-- Every row's recurrence and readout, at the third call's output index. -/
def readout (seq : Vec Ideal S12x10400x128 .f32) (i : S10400x24.Idx) : EReal :=
  Spec.head (fun k o => x7 (ix2 k o)) (fun o => x8 (ix1 o))
    (Spec.run (Lstm.layer x1 x2 bi0 bh0) (Lstm.layer x4 x5 bi1 bh1)
      (fun t k => seq (ix3 ⟨t % 12, Nat.mod_lt _ (by decide)⟩ (i 0) k)) 12).h1 (i 1)

theorem point2 (hb0 : ∀ q : Fin 512, x3 (ix1 q) = bi0 q + bh0 q) (hb1 : ∀ q : Fin 512, x6 (ix1 q) = bi1 q + bh1 q)
    (x0 : Vec Ideal S12x2080x128 .f32) (seq : Vec Ideal S12x10400x128 .f32) (y : S2080x24.Idx) (r : Fin 10400)
    (hs : ∀ u k, x0 (ix3 u (y 0) k) = seq (ix3 u r k)) :
    (out2_9 x0 x1 x2 x3 x4 x5 x6 x7 x8 y : EReal) = readout x1 x2 x4 x5 x7 x8 bi0 bh0 bi1 bh1 seq (ix2 r (y 1)) := by
  have h := Lstm.out_apply x0 x1 x2 x3 x4 x5 x6 x7 x8 (y 0) bi0 bh0 bi1 bh1 hb0 hb1 (y 1)
  have e : (ix2 (y 0) (y 1) : S2080x24.Idx) = y := by blk_ext
  rw [e] at h
  have e1 : (fun (t : ℕ) (k : Fin 128) => x0 (ix3 ⟨t % 12, Nat.mod_lt _ (by decide)⟩ (y 0) k))
      = fun t k => seq (ix3 ⟨t % 12, Nat.mod_lt _ (by decide)⟩ r k) := funext fun t => funext fun k => hs _ k
  rw [e1] at h
  exact h

end rec

set_option maxHeartbeats 1600000 in
/-- The third call leaves every row's two layer recurrence and the readout. -/
theorem arr2 (bi0 bh0 bi1 bh1 : Fin 512 → EReal)
    (hb0 : ∀ q, V c main_call0_v23 (ix1 q) = bi0 q + bh0 q) (hb1 : ∀ q, V c main_call0_v26 (ix1 q) = bi1 q + bh1 q)
    (r : Fin 10400) (o : Fin 24) :
    ((dat2 V c).arrAt 9 cfg2.N (ix2 r o) : EReal)
      = Spec.head (fun k o => V c main_arg18 (ix2 k o)) (fun o => V c main_arg19 (ix1 o))
        (Spec.run (Lstm.layer (V c main_call0_v21) (V c main_call0_v22) bi0 bh0) (Lstm.layer (V c main_call0_v24) (V c main_call0_v25) bi1 bh1)
          (fun t k => V c main_call0_v20 (ix3 ⟨t % 12, Nat.mod_lt _ (by decide)⟩ r k)) 12).h1 o := by
  refine (congrFun (Pipeline.Dat.arrAt_eq_of_covers (dat2 V c) 9 (readout (V c main_call0_v21) (V c main_call0_v22) (V c main_call0_v24) (V c main_call0_v25)
    (V c main_arg18) (V c main_arg19) bi0 bh0 bi1 bh1 (V c main_call0_v20)) (by decide +kernel)
    fun t hf y => ?_) (ix2 r o))
  blk_simp
  rw [after2_9]
  have ht : t.1 < 5 := t.2
  have hr : (y 0).1 < 2080 := (y 0).2
  have hy : (win2_9.blk t).view.emb y = ix2 ⟨t.1 * 2080 + (y 0).1, by omega⟩ (y 1) := by blk_ext [idx2 t]
  rw [hy, blk2_1, blk2_2, blk2_3, blk2_4, blk2_5, blk2_6, blk2_7, blk2_8]
  exact point2 (V c main_call0_v21) (V c main_call0_v22) (V c main_call0_v23) (V c main_call0_v24) (V c main_call0_v25) (V c main_call0_v26)
    (V c main_arg18) (V c main_arg19) bi0 bh0 bi1 bh1 hb0 hb1 _ (V c main_call0_v20) y ⟨t.1 * 2080 + (y 0).1, by omega⟩
    fun u k => rows_at V c t u (y 0) k (by omega)

end Cert.KernelIdeal.Whole
-- ==== Proof.Answer.lean ====
/- The whole model's result at one entry, over the argument arrays read as functions. -/
module

public import proofs.«01_k».proof.Proof.GcnSpec
public import proofs.«01_k».proof.Proof.Spec

@[expose] public section

noncomputable section

namespace Cert

/-- The argument arrays: edges and the arrays that must be finite as real functions, the rest as they are. -/
structure Args where
  s : Fin 2600 → Fin 325
  d : Fin 2600 → Fin 325
  x : Fin 32 → Fin 12 → Fin 325 → Fin 2 → ℝ
  w0 : Fin 2 → Fin 128 → ℝ
  c0 : Fin 128 → ℝ
  w1 : Fin 128 → Fin 128 → ℝ
  c1 : Fin 128 → ℝ
  g0 : Fin 128 → ℝ
  be0 : Fin 128 → ℝ
  g1 : Fin 128 → ℝ
  be1 : Fin 128 → EReal
  l0 : Spec.Layer
  l1 : Spec.Layer
  wo : Fin 128 → Fin 24 → EReal
  bo : Fin 24 → EReal

/-- Both convolution layers' value at a time step, batch element, node and lane. -/
def Args.conv (a : Args) (t : Fin 12) (b : Fin 32) (n : Fin 325) (j : Fin 128) : EReal :=
  Gcn.out a.s a.d (fun b n f => a.x b t n f) a.w0 a.c0 a.g0 a.be0 a.w1 a.c1 a.g1 a.be1 b n j

/-- The model's result. -/
def Args.answer (a : Args) (b : Fin 32) (n : Fin 325) (o : Fin 24) : EReal :=
  Spec.head a.wo a.bo (Spec.run a.l0 a.l1 (fun t k => a.conv ⟨t % 12, Nat.mod_lt _ (by decide)⟩ b n k) 12).h1 o

end Cert

end
-- ==== Proof.KernelResult.lean ====
/- The kernel's result array, from the launch contents. -/
module

public import proofs.«01_k».proof.Proof.KernelValue
public import proofs.«01_k».proof.Proof.Answer

@[expose] public section

set_option maxRecDepth 16384

noncomputable section

namespace Cert.KernelIdeal.Whole

open Cert.KernelIdeal Cert.KernelIdeal.Gen Cert.Gcn
open Cert.KernelIdeal.Gcn (col inCol)
open Idealize.ShloMosaic Idealize.ShloMosaic.TcCoe Idealize.ShloMosaic.Tactic

variable (m : (ℓ : Loc nD τ sig) → Buf (Elt Ideal) ℓ) (ρ : Dev nD → PrngReg) (c : Dev nD)

/-- The launch contents at one device are the given argument arrays. -/
structure Holds (a : Args) : Prop where
  src : ∀ k, m ((c : Thread nD τ).loc main_arg1) (ix2 0 k) = BitVec.ofNat 32 (a.s k).1
  dst : ∀ k, m ((c : Thread nD τ).loc main_arg1) (ix2 1 k) = BitVec.ofNat 32 (a.d k).1
  x : ∀ b t n f, m ((c : Thread nD τ).loc main_arg0) (ix4 b t n f) = ((a.x b t n f : ℝ) : EReal)
  w0 : ∀ f j, m ((c : Thread nD τ).loc main_arg2) (ix2 f j) = ((a.w0 f j : ℝ) : EReal)
  c0 : ∀ j, m ((c : Thread nD τ).loc main_arg3) (ix1 j) = ((a.c0 j : ℝ) : EReal)
  w1 : ∀ f j, m ((c : Thread nD τ).loc main_arg4) (ix2 f j) = ((a.w1 f j : ℝ) : EReal)
  c1 : ∀ j, m ((c : Thread nD τ).loc main_arg5) (ix1 j) = ((a.c1 j : ℝ) : EReal)
  g0 : ∀ j, m ((c : Thread nD τ).loc main_arg6) (ix1 j) = ((a.g0 j : ℝ) : EReal)
  be0 : ∀ j, m ((c : Thread nD τ).loc main_arg7) (ix1 j) = ((a.be0 j : ℝ) : EReal)
  g1 : ∀ j, m ((c : Thread nD τ).loc main_arg8) (ix1 j) = ((a.g1 j : ℝ) : EReal)
  be1 : a.be1 = fun j => m ((c : Thread nD τ).loc main_arg9) (ix1 j)
  l0 : a.l0 = ⟨fun q k => m ((c : Thread nD τ).loc main_arg10) (ix2 q k), fun q k => m ((c : Thread nD τ).loc main_arg11) (ix2 q k),
    fun q => m ((c : Thread nD τ).loc main_arg12) (ix1 q), fun q => m ((c : Thread nD τ).loc main_arg13) (ix1 q)⟩
  l1 : a.l1 = ⟨fun q k => m ((c : Thread nD τ).loc main_arg14) (ix2 q k), fun q k => m ((c : Thread nD τ).loc main_arg15) (ix2 q k),
    fun q => m ((c : Thread nD τ).loc main_arg16) (ix1 q), fun q => m ((c : Thread nD τ).loc main_arg17) (ix1 q)⟩
  wo : a.wo = fun k o => m ((c : Thread nD τ).loc main_arg18) (ix2 k o)
  bo : a.bo = fun o => m ((c : Thread nD τ).loc main_arg19) (ix1 o)

variable {m c} {a : Args} (h : Holds m c a)

include h in
/-- The adjacency matrix the second call reads. -/
theorem adjacency (n k : Fin 325) : (V3 m ρ c main_call0_v1 (ix2 n k) : EReal) = ((adj a.s a.d n k : ℝ) : EReal) := by
  have e : V3 m ρ c main_call0_v1 = (dat0 (V1 m ρ) c).arrAt 1 cfg0.N :=
    (W3_of m ρ c main_call0_v1 (by decide)).trans (W2_arr m ρ c 1)
  rw [e]
  exact arr0 (V1 m ρ) c a.s a.d (fun k => (Host.edges_apply _ k 0).trans (h.src k)) (fun k => (Host.edges_apply _ k 1).trans (h.dst k)) n k

theorem kept3 (r : Ref sig .tc) (hr : r ∈ argRefs) : V3 m ρ c r = m ((c : Thread nD τ).loc r) := W3_args m ρ c r hr

theorem kept5 (r : Ref sig .tc) (hr : r ∈ argRefs) : V5 m ρ c r = m ((c : Thread nD τ).loc r) := W5_args m ρ c r hr

include h in
/-- The sequence the third call reads. -/
theorem sequence (t : Fin 12) (b : Fin 32) (n : Fin 325) (j : Fin 128) (r : Fin 10400) (hr : r.1 = n.1 * 32 + b.1) :
    (V5 m ρ c main_call0_v20 (ix3 t r j) : EReal) = a.conv t b n j := by
  refine (Host.seq_apply (W4 m ρ c) t n b j r hr).trans ?_
  have e : W4 m ρ c (Proc.devRef .tc main_call0_v19) = (dat1 (V3 m ρ) c).arrAt 10 cfg1.N := W4_arr m ρ c 10
  rw [e]
  have k2 : ∀ r ∈ argRefs, W2 m ρ c (Proc.devRef .tc r) = m ((c : Thread nD τ).loc r) := W2_args m ρ c
  refine (arr1 (V3 m ρ) c a.s a.d a.x a.w0 a.c0 a.w1 a.c1 a.g0 a.be0 a.g1
    (fun t n b f => (Host.input_apply _ t n b f).trans ((congrFun (k2 main_arg0 (by decide)) _).trans (h.x b t n f)))
    (adjacency ρ h)
    (fun e f b j => (Host.kron_apply _ e f b j).trans ?_)
    (fun b j => (Host.bias0_apply _ b j).trans ((congrFun (k2 main_arg3 (by decide)) _).trans (h.c0 j)))
    (fun f j => (congrFun (kept3 ρ main_arg4 (by decide)) _).trans (h.w1 f j))
    (fun b j => (Host.bias1_apply _ b j).trans ((congrFun (k2 main_arg5 (by decide)) _).trans (h.c1 j)))
    (fun j => (congrFun (kept3 ρ main_arg6 (by decide)) _).trans (h.g0 j))
    (fun j => (congrFun (kept3 ρ main_arg7 (by decide)) _).trans (h.be0 j))
    (fun j => (congrFun (kept3 ρ main_arg8 (by decide)) _).trans (h.g1 j)) t n b j).trans ?_
  · have e2 : (show EReal from W2 m ρ c (Proc.devRef .tc main_arg2) (ix2 f j)) = ((a.w0 f j : ℝ) : EReal) :=
      (congrFun (k2 main_arg2 (by decide)) _).trans (h.w0 f j)
    rw [e2]
    split <;> simp
  · rw [Args.conv, h.be1, show V3 m ρ c main_arg9 = m ((c : Thread nD τ).loc main_arg9) from kept3 ρ main_arg9 (by decide)]

include h in
/-- The kernel's result at an entry. -/
theorem result (b : Fin 32) (n : Fin 325) (o : Fin 24) :
    (W7 m ρ c (Proc.devRef .tc main_v0) (ix3 b n o) : EReal) = a.answer b n o := by
  have hr : n.1 * 32 + b.1 < 10400 := by omega
  refine (Host.result_apply (W6 m ρ c) n b o ⟨n.1 * 32 + b.1, hr⟩ rfl).trans ?_
  have e : W6 m ρ c (Proc.devRef .tc main_call0_v27) = (dat2 (V5 m ρ) c).arrAt 9 cfg2.N := W6_arr m ρ c 9
  rw [e]
  have k4 : ∀ r ∈ argRefs, W4 m ρ c (Proc.devRef .tc r) = m ((c : Thread nD τ).loc r) := W4_args m ρ c
  refine (arr2 (V5 m ρ) c (fun q => m ((c : Thread nD τ).loc main_arg12) (ix1 q)) (fun q => m ((c : Thread nD τ).loc main_arg13) (ix1 q))
    (fun q => m ((c : Thread nD τ).loc main_arg16) (ix1 q)) (fun q => m ((c : Thread nD τ).loc main_arg17) (ix1 q)) (fun q => ?_) (fun q => ?_)
    ⟨n.1 * 32 + b.1, hr⟩ o).trans ?_
  · rw [show V5 m ρ c main_call0_v23 = _ from Host.b0 (W4 m ρ c), k4 main_arg12 (by decide), k4 main_arg13 (by decide)]
    exact Host.both_apply _ _ q
  · rw [show V5 m ρ c main_call0_v26 = _ from Host.b1 (W4 m ρ c), k4 main_arg16 (by decide), k4 main_arg17 (by decide)]
    exact Host.both_apply _ _ q
  · have hl0 : Lstm.layer (V5 m ρ c main_call0_v21) (V5 m ρ c main_call0_v22) (fun q => m ((c : Thread nD τ).loc main_arg12) (ix1 q))
        (fun q => m ((c : Thread nD τ).loc main_arg13) (ix1 q)) = a.l0 := by
      rw [h.l0, show V5 m ρ c main_call0_v21 = _ from Host.wih0 (W4 m ρ c), show V5 m ρ c main_call0_v22 = _ from Host.whh0 (W4 m ρ c),
        k4 main_arg10 (by decide), k4 main_arg11 (by decide)]
      unfold Lstm.layer
      simp only [Host.turn_apply]
    have hl1 : Lstm.layer (V5 m ρ c main_call0_v24) (V5 m ρ c main_call0_v25) (fun q => m ((c : Thread nD τ).loc main_arg16) (ix1 q))
        (fun q => m ((c : Thread nD τ).loc main_arg17) (ix1 q)) = a.l1 := by
      rw [h.l1, show V5 m ρ c main_call0_v24 = _ from Host.wih1 (W4 m ρ c), show V5 m ρ c main_call0_v25 = _ from Host.whh1 (W4 m ρ c),
        k4 main_arg14 (by decide), k4 main_arg15 (by decide)]
      unfold Lstm.layer
      simp only [Host.turn_apply]
    rw [hl0, hl1, Args.answer, h.wo, h.bo, show V5 m ρ c main_arg18 = _ from kept5 ρ main_arg18 (by decide),
      show V5 m ρ c main_arg19 = _ from kept5 ρ main_arg19 (by decide)]
    simp only [sequence ρ h _ b n _ ⟨n.1 * 32 + b.1, hr⟩ rfl]

end Cert.KernelIdeal.Whole
-- ==== Proof.RefOps.lean ====
/- The reference's row takes and row scatters at an index, for row numbers in range. -/
module

public import proofs.«01_k».proof.Proof.Gen.ReferenceIdeal.Step
public import Idealize.ShloMosaic.Lib.Pipeline.ValueKit
public import Idealize.ShloMosaic.Lib.Routing.OpsSet

@[expose] public section

set_option maxRecDepth 16384

noncomputable section

namespace Cert.ReferenceIdeal.Gcn

open Cert.ReferenceIdeal Cert.ReferenceIdeal.Gen
open Idealize.ShloMosaic Idealize.ShloMosaic.TcCoe

theorem word_toInt (r : Fin 10400) : (BitVec.ofNat 32 r.1).toInt = (r.1 : Int) := StableHlo.Predicate.toInt_ofNat_small _ (by omega)

/-- A take of one entry. -/
theorem take_apply (x : FVec Ideal S10400 .f32) (idx : IVec S93600x1 32) (e : Fin 93600) (r : Fin 10400)
    (h : idx (ix2 e 0) = BitVec.ofNat 32 r.1) : Host.gather gather_S10400_S93600x1_S93600_n_0_n_n_0_1_1 x idx (ix1 e) = x (ix1 r) :=
  Routing.gather_take1 gather_S10400_S93600x1_S93600_n_0_n_n_0_1_1 rfl rfl rfl rfl x idx e r h (by decide)

/-- A take of one row. -/
theorem takeRow_apply (x : FVec Ideal S10400x12x128 .f32) (idx : IVec S93600x1 32) (e : Fin 93600) (r : Fin 10400)
    (h : idx (ix2 e 0) = BitVec.ofNat 32 r.1) (t : Fin 12) (j : Fin 128) :
    Host.gather gather_S10400x12x128_S93600x1_S93600x12x128_12_0_n_n_0_1_112128 x idx (ix3 e t j) = x (ix3 r t j) := by
  unfold Host.gather
  refine congrArg x (funext fun a => Fin.ext ?_)
  have hs : (gather_S10400x12x128_S93600x1_S93600x12x128_12_0_n_n_0_1_112128).siIdx (ix3 e t j) ⟨0, by decide⟩ = ix2 e 0 := by
    funext b
    match b with
    | ⟨0, _⟩ => rfl
    | ⟨1, _⟩ => rfl
  match a with
  | ⟨0, _⟩ =>
    show min (idx ((gather_S10400x12x128_S93600x1_S93600x12x128_12_0_n_n_0_1_112128).siIdx (ix3 e t j) ⟨0, by decide⟩)).toInt.toNat 10399 + 0 + 0 = r.1
    rw [hs, h, word_toInt]
    omega
  | ⟨1, _⟩ =>
    show 0 + 0 + t.1 = t.1
    omega
  | ⟨2, _⟩ =>
    show 0 + 0 + j.1 = j.1
    omega

/-- An added scatter is its operand's entry and the sum of the updates that land there. -/
theorem scatterAdd_sum {s si u : Shape} (d : ScatterDims s si u) (x : FVec Ideal s .f32) (idx : IVec si 32) (upd : FVec Ideal u .f32) (i : s.Idx) :
    (Host.scatterAdd d x idx upd i : EReal) = x i + ∑ j ∈ Finset.univ.filter (fun j => d.resultIdx? j idx = some i), upd j := rfl

variable (q : Fin 93600 → Fin 10400) (idx : IVec S93600x1 32) (h : ∀ e, idx (ix2 e 0) = BitVec.ofNat 32 (q e).1)

include h in
theorem land_iff (e : Fin 93600) (r : Fin 10400) :
    (scatter_S10400_S93600x1_S93600_n_0_0_1).resultIdx? (ix1 e) idx = some (ix1 r) ↔ q e = r := by
  have hs : (scatter_S10400_S93600x1_S93600_n_0_0_1).siIdx (ix1 e) ⟨0, by decide⟩ = ix2 e 0 := by
    funext b
    match b with
    | ⟨0, _⟩ => rfl
    | ⟨1, _⟩ => rfl
  have e0 : (scatter_S10400_S93600x1_S93600_n_0_0_1).start (ix1 e) idx 0 = (q e).1 := by
    show (idx ((scatter_S10400_S93600x1_S93600_n_0_0_1).siIdx (ix1 e) ⟨0, by decide⟩)).toInt = _
    rw [hs, h, word_toInt]
  have w0 : (scatter_S10400_S93600x1_S93600_n_0_0_1).window (ix1 e) 0 = 0 := rfl
  have hin : ∀ a, 0 ≤ (scatter_S10400_S93600x1_S93600_n_0_0_1).start (ix1 e) idx a + (scatter_S10400_S93600x1_S93600_n_0_0_1).window (ix1 e) a
      ∧ (scatter_S10400_S93600x1_S93600_n_0_0_1).start (ix1 e) idx a + (scatter_S10400_S93600x1_S93600_n_0_0_1).window (ix1 e) a < S10400.size a := by
    intro a
    match a with
    | ⟨0, _⟩ =>
      rw [show (⟨0, _⟩ : Fin S10400.rank) = 0 from rfl, e0, w0]
      have := (q e).2
      show _ ∧ _ < ((10400 : ℕ) : Int)
      omega
  unfold ScatterDims.resultIdx?
  rw [dif_pos hin, Option.some_inj]
  constructor
  · intro g
    have g0 := congrArg Fin.val (congrFun g 0)
    change ((scatter_S10400_S93600x1_S93600_n_0_0_1).start (ix1 e) idx 0 + (scatter_S10400_S93600x1_S93600_n_0_0_1).window (ix1 e) 0).toNat = r.1 at g0
    rw [e0, w0] at g0
    exact Fin.ext (by omega)
  · rintro rfl
    funext a
    match a with
    | ⟨0, _⟩ =>
      apply Fin.ext
      show ((scatter_S10400_S93600x1_S93600_n_0_0_1).start (ix1 e) idx 0 + (scatter_S10400_S93600x1_S93600_n_0_0_1).window (ix1 e) 0).toNat = (q e).1
      rw [e0, w0]
      omega

include h in
theorem landRow_iff (e : Fin 93600) (t : Fin 12) (j : Fin 128) (r : Fin 10400) (t' : Fin 12) (j' : Fin 128) :
    (scatter_S10400x12x128_S93600x1_S93600x12x128_12_0_0_1).resultIdx? (ix3 e t j) idx = some (ix3 r t' j') ↔ q e = r ∧ t = t' ∧ j = j' := by
  have hs : (scatter_S10400x12x128_S93600x1_S93600x12x128_12_0_0_1).siIdx (ix3 e t j) ⟨0, by decide⟩ = ix2 e 0 := by
    funext b
    match b with
    | ⟨0, _⟩ => rfl
    | ⟨1, _⟩ => rfl
  have e0 : (scatter_S10400x12x128_S93600x1_S93600x12x128_12_0_0_1).start (ix3 e t j) idx 0 = (q e).1 := by
    show (idx ((scatter_S10400x12x128_S93600x1_S93600x12x128_12_0_0_1).siIdx (ix3 e t j) ⟨0, by decide⟩)).toInt = _
    rw [hs, h, word_toInt]
  have e1 : (scatter_S10400x12x128_S93600x1_S93600x12x128_12_0_0_1).start (ix3 e t j) idx 1 = 0 := rfl
  have e2 : (scatter_S10400x12x128_S93600x1_S93600x12x128_12_0_0_1).start (ix3 e t j) idx 2 = 0 := rfl
  have w0 : (scatter_S10400x12x128_S93600x1_S93600x12x128_12_0_0_1).window (ix3 e t j) 0 = 0 := rfl
  have w1 : (scatter_S10400x12x128_S93600x1_S93600x12x128_12_0_0_1).window (ix3 e t j) 1 = t.1 := rfl
  have w2 : (scatter_S10400x12x128_S93600x1_S93600x12x128_12_0_0_1).window (ix3 e t j) 2 = j.1 := rfl
  clear hs
  generalize scatter_S10400x12x128_S93600x1_S93600x12x128_12_0_0_1 = D at *
  have hin : ∀ a, 0 ≤ D.start (ix3 e t j) idx a + D.window (ix3 e t j) a ∧ D.start (ix3 e t j) idx a + D.window (ix3 e t j) a < S10400x12x128.size a := by
    intro a
    match a with
    | ⟨0, _⟩ =>
      rw [show (⟨0, _⟩ : Fin S10400x12x128.rank) = 0 from rfl, e0, w0]
      have := (q e).2
      show _ ∧ _ < ((10400 : ℕ) : Int)
      omega
    | ⟨1, _⟩ =>
      rw [show (⟨1, _⟩ : Fin S10400x12x128.rank) = 1 from rfl, e1, w1]
      show _ ∧ _ < ((12 : ℕ) : Int)
      omega
    | ⟨2, _⟩ =>
      rw [show (⟨2, _⟩ : Fin S10400x12x128.rank) = 2 from rfl, e2, w2]
      show _ ∧ _ < ((128 : ℕ) : Int)
      omega
  unfold ScatterDims.resultIdx?
  rw [dif_pos hin, Option.some_inj]
  constructor
  · intro g
    have g0 := congrArg Fin.val (congrFun g 0)
    have g1 := congrArg Fin.val (congrFun g 1)
    have g2 := congrArg Fin.val (congrFun g 2)
    change (D.start (ix3 e t j) idx 0 + D.window (ix3 e t j) 0).toNat = r.1 at g0
    change (D.start (ix3 e t j) idx 1 + D.window (ix3 e t j) 1).toNat = t'.1 at g1
    change (D.start (ix3 e t j) idx 2 + D.window (ix3 e t j) 2).toNat = j'.1 at g2
    rw [e0, w0] at g0
    rw [e1, w1] at g1
    rw [e2, w2] at g2
    exact ⟨Fin.ext (by omega), Fin.ext (by omega), Fin.ext (by omega)⟩
  · rintro ⟨rfl, rfl, rfl⟩
    funext a
    match a with
    | ⟨0, _⟩ =>
      apply Fin.ext
      show (D.start (ix3 e t j) idx 0 + D.window (ix3 e t j) 0).toNat = (q e).1
      rw [e0, w0]
      omega
    | ⟨1, _⟩ =>
      apply Fin.ext
      show (D.start (ix3 e t j) idx 1 + D.window (ix3 e t j) 1).toNat = t.1
      rw [e1, w1]
      omega
    | ⟨2, _⟩ =>
      apply Fin.ext
      show (D.start (ix3 e t j) idx 2 + D.window (ix3 e t j) 2).toNat = j.1
      rw [e2, w2]
      omega

include h in
/-- An added scatter of one entry per update. -/
theorem add_apply (x : FVec Ideal S10400 .f32) (upd : FVec Ideal S93600 .f32) (r : Fin 10400) :
    (Host.scatterAdd scatter_S10400_S93600x1_S93600_n_0_0_1 x idx upd (ix1 r) : EReal)
      = x (ix1 r) + ∑ e : Fin 93600, if q e = r then upd (ix1 e) else 0 := by
  refine (scatterAdd_sum _ x idx upd (ix1 r)).trans (congrArg (fun z : EReal => x (ix1 r) + z) ?_)
  rw [← Finset.sum_filter]
  refine Finset.sum_nbij' (fun j => (j 0 : Fin 93600)) (fun e => ix1 e) ?_ ?_ ?_ ?_ ?_
  · intro j hj
    idx_vars j
    exact Finset.mem_filter.2 ⟨Finset.mem_univ _, (land_iff q idx h _ _).1 (Finset.mem_filter.1 hj).2⟩
  · intro e he
    exact Finset.mem_filter.2 ⟨Finset.mem_univ _, (land_iff q idx h _ _).2 (Finset.mem_filter.1 he).2⟩
  · intro j hj
    idx_vars j
  · intro e he
    rfl
  · intro j hj
    idx_vars j

include h in
/-- An added scatter of one row per update. -/
theorem addRow_apply (x : FVec Ideal S10400x12x128 .f32) (upd : FVec Ideal S93600x12x128 .f32) (r : Fin 10400) (t : Fin 12) (l : Fin 128) :
    (Host.scatterAdd scatter_S10400x12x128_S93600x1_S93600x12x128_12_0_0_1 x idx upd (ix3 r t l) : EReal)
      = x (ix3 r t l) + ∑ e : Fin 93600, if q e = r then upd (ix3 e t l) else 0 := by
  refine (scatterAdd_sum _ x idx upd (ix3 r t l)).trans (congrArg (fun z : EReal => x (ix3 r t l) + z) ?_)
  rw [← Finset.sum_filter]
  refine Finset.sum_nbij' (fun j => (j 0 : Fin 93600)) (fun e => ix3 e t l) ?_ ?_ ?_ ?_ ?_
  · intro j hj
    idx_vars j
    exact Finset.mem_filter.2 ⟨Finset.mem_univ _, ((landRow_iff q idx h _ _ _ _ _ _).1 (Finset.mem_filter.1 hj).2).1⟩
  · intro e he
    exact Finset.mem_filter.2 ⟨Finset.mem_univ _, (landRow_iff q idx h _ _ _ _ _ _).2 ⟨(Finset.mem_filter.1 he).2, rfl, rfl⟩⟩
  · intro j hj
    idx_vars j
    obtain ⟨-, rfl, rfl⟩ := (landRow_iff q idx h _ _ _ _ _ _).1 (Finset.mem_filter.1 hj).2
    rfl
  · intro e he
    rfl
  · intro j hj
    idx_vars j
    obtain ⟨-, rfl, rfl⟩ := (landRow_iff q idx h _ _ _ _ _ _).1 (Finset.mem_filter.1 hj).2
    rfl

end Cert.ReferenceIdeal.Gcn
-- ==== Proof.RefEdges.lean ====
/- The reference's edge list as row numbers: each batch element's edges, then each row's own edge. -/
module

public import proofs.«01_k».proof.Proof.RefOps

@[expose] public section

set_option maxRecDepth 16384

noncomputable section

namespace Cert.ReferenceIdeal.Gcn

open Cert.ReferenceIdeal Cert.ReferenceIdeal.Gen Cert.ReferenceIdeal.Step
open Idealize.ShloMosaic Idealize.ShloMosaic.TcCoe

/-- Batch element `b`'s node `n` as a row. -/
def node (b : Fin 32) (n : Fin 325) : Fin 10400 := ⟨b.1 * 325 + n.1, by omega⟩

/-- Batch element `b`'s edge `k` in the edge list. -/
def edge (b : Fin 32) (k : Fin 2600) : Fin 93600 := ⟨b.1 * 2600 + k.1, by omega⟩

/-- A row's own edge in the edge list. -/
def self (r : Fin 10400) : Fin 93600 := ⟨83200 + r.1, by omega⟩

/-- The row an entry of the edge list names, from the nodes the given edges name. -/
def rowOf (s : Fin 2600 → Fin 325) (e : Fin 93600) : Fin 10400 :=
  if h : e.1 < 83200 then node ⟨e.1 / 2600, by omega⟩ (s ⟨e.1 % 2600, by omega⟩) else ⟨e.1 - 83200, by omega⟩

theorem rowOf_edge (s : Fin 2600 → Fin 325) (b : Fin 32) (k : Fin 2600) : rowOf s (edge b k) = node b (s k) := by
  have h : (edge b k).1 < 83200 := by simp only [edge]; omega
  have h1 : (⟨(edge b k).1 / 2600, by omega⟩ : Fin 32) = b := Fin.ext (by simp only [edge]; omega)
  have h2 : (⟨(edge b k).1 % 2600, by omega⟩ : Fin 2600) = k := Fin.ext (by simp only [edge]; omega)
  rw [rowOf, dif_pos h, h1, h2]

theorem rowOf_self (s : Fin 2600 → Fin 325) (r : Fin 10400) : rowOf s (self r) = r := by
  have h : ¬ (self r).1 < 83200 := by simp only [self]; omega
  rw [rowOf, dif_neg h]
  exact Fin.ext (by simp only [self]; omega)

theorem node_inj (b b' : Fin 32) (n n' : Fin 325) : node b n = node b' n' ↔ b = b' ∧ n = n' := by
  simp only [node, Fin.ext_iff]
  omega

/-- Every entry of the edge list is one or the other. -/
theorem entry_cases (e : Fin 93600) : (∃ b k, e = edge b k) ∨ ∃ r, e = self r := by
  by_cases h : e.1 < 83200
  · exact .inl ⟨⟨e.1 / 2600, by omega⟩, ⟨e.1 % 2600, by omega⟩, Fin.ext (by simp only [edge]; omega)⟩
  · exact .inr ⟨⟨e.1 - 83200, by omega⟩, Fin.ext (by simp only [self]; omega)⟩

theorem sum_nodes {M : Type} [AddCommMonoid M] (f : Fin 10400 → M) : ∑ r, f r = ∑ b, ∑ n, f (node b n) :=
  Fin.sum_univ_tiles 32 325 rfl f

theorem sum_entries {M : Type} [AddCommMonoid M] (f : Fin 93600 → M) :
    ∑ e, f e = (∑ b, ∑ k, f (edge b k)) + ∑ r, f (self r) := by
  have h := Fin.sum_univ_add (a := 83200) (b := 10400) f
  exact h.trans (congrArg (fun z : M => z + ∑ r, f (self r)) (Fin.sum_univ_tiles 32 2600 rfl fun i => f (Fin.castAdd 10400 i)))

/-- A sum over the entries that name one row: that batch element's edges into the node, and the row's own edge. -/
theorem sum_into {M : Type} [AddCommMonoid M] (d : Fin 2600 → Fin 325) (f : Fin 93600 → M) (b : Fin 32) (n : Fin 325) :
    (∑ e, if rowOf d e = node b n then f e else 0) = (∑ k, if d k = n then f (edge b k) else 0) + f (self (node b n)) := by
  rw [sum_entries]
  simp only [rowOf_edge, rowOf_self, node_inj, Finset.sum_ite_eq', Finset.mem_univ, if_true]
  refine congrArg (fun z : M => z + f (self (node b n))) ?_
  rw [Finset.sum_eq_single b]
  · exact Finset.sum_congr rfl fun k _ => by simp only [true_and]
  · intro b' _ hb
    exact Finset.sum_eq_zero fun k _ => if_neg fun h => hb h.1
  · exact fun h => absurd (Finset.mem_univ _) h

/-- One end of every entry, from that end of the given edges. -/
def ends (r : IVec S1x2600 32) : IVec S93600 32 :=
  concatenate S93600 0 [⟨S83200, shapeCast _ (addi (broadcastInDim S32x2600 ![0, 1] bcast_S1x2600_S32x2600_0_1
    (broadcastInDim S1x2600 ![1] bcast_S2600_S1x2600_1 (shapeCast _ r shapeCasts_S1x2600_S2600))) (K_main_v8 (F := Ideal))) shapeCasts_S32x2600_S83200⟩,
    ⟨S10400, K_main_v19 (F := Ideal)⟩] concatenates_S83200_S10400_S93600_d0

theorem ends_self (r : IVec S1x2600 32) (i : Fin 10400) : ends r (ix1 (self i)) = BitVec.ofNat 32 i.1 := by
  have h : ¬ (self i).1 < 83200 := by simp only [self]; omega
  have h1 : (self i).1 - 83200 = i.1 := by simp only [self]; omega
  pointwise [ends, K_main_v19]
  rw [dif_neg h, h1]

theorem ends_edge (r : IVec S1x2600 32) (b : Fin 32) (k : Fin 2600) :
    ends r (ix1 (edge b k)) = r (ix2 0 k) + BitVec.ofNat 32 b.1 * 325#32 := by
  have h : (edge b k).1 < 83200 := by simp only [edge]; omega
  have h1 : (edge b k).1 / 2600 = b.1 := by simp only [edge]; omega
  have h2 : (edge b k).1 % 2600 = k.1 := by simp only [edge]; omega
  pointwise [ends, K_main_v8, K_main_v6, K_main_v2, K_main_v1, K_main_v0, K_main_c]
  rw [dif_pos h]
  simp only [h1, h2]
  rfl

theorem ends_apply (r : IVec S1x2600 32) (s : Fin 2600 → Fin 325) (h : ∀ k, r (ix2 0 k) = BitVec.ofNat 32 (s k).1) (e : Fin 93600) :
    ends r (ix1 e) = BitVec.ofNat 32 (rowOf s e).1 := by
  rcases entry_cases e with ⟨b, k, rfl⟩ | ⟨i, rfl⟩
  · rw [ends_edge, h, rowOf_edge]
    simp only [node, BitVec.ofNat_add, BitVec.ofNat_mul]
    exact BitVec.add_comm _ _
  · rw [ends_self, rowOf_self]

/-- Row numbers as the takes read them: a negative number counts from the end. -/
def wrap (w : IVec S93600 32) : IVec S93600x1 32 :=
  broadcastInDim S93600x1 ![0] bcast_S93600_S93600x1_0 (select (cmpi .slt w (K_main_v32 (F := Ideal))) (addi w (K_main_v34 (F := Ideal))) w)

theorem wrap_apply (w : IVec S93600 32) (e : Fin 93600) (r : Fin 10400) (h : w (ix1 e) = BitVec.ofNat 32 r.1) :
    wrap w (ix2 e 0) = BitVec.ofNat 32 r.1 := by
  pointwise [wrap, K_main_v32, K_main_v34, K_main_c_4, K_main_c_5]
  have hn : (BitVec.ofNat 32 r.1).slt 0#32 = false := by
    rw [BitVec.slt, word_toInt]
    simp
  have hc : IntOp.cmpi CmpIPredicate.slt (BitVec.ofNat 32 r.1) 0#32 = 0#1 := by
    simp only [IntOp.cmpi, hn]
    rfl
  rw [h, hc]
  rfl

/-- Row numbers as the scatters read them. -/
def asCol (w : IVec S93600 32) : IVec S93600x1 32 := broadcastInDim S93600x1 ![0] bcast_S93600_S93600x1_0 w

theorem asCol_apply (w : IVec S93600 32) (e : Fin 93600) : asCol w (ix2 e 0) = w (ix1 e) := by
  pointwise [asCol]

end Cert.ReferenceIdeal.Gcn
-- ==== Proof.RefConv.lean ====
/- The reference's edge weights and its convolution over the edge list, from real features. -/
module

public import proofs.«01_k».proof.Proof.RefEdges
public import proofs.«01_k».proof.Proof.GcnSpec

@[expose] public section

set_option maxRecDepth 16384

noncomputable section

namespace Cert.ReferenceIdeal.Gcn

open Cert.ReferenceIdeal Cert.ReferenceIdeal.Gen Cert.ReferenceIdeal.Step Cert.Gcn
open Idealize.ShloMosaic Idealize.ShloMosaic.TcCoe

/-- Every row's degree. -/
def degV (dst : IVec S93600 32) : FVec Ideal S10400 .f32 :=
  Host.scatterAdd scatter_S10400_S93600x1_S93600_n_0_0_1 (K_main_v23 (F := Ideal)) (asCol dst) (K_main_v22 (F := Ideal))

/-- Every row's inverse root degree, zero where the degree is. -/
def dinvV (g : FVec Ideal S10400 .f32) : FVec Ideal S10400 .f32 :=
  select (cmpf .ogt g (K_main_v26 (F := Ideal))) (Host.divf (K_main_v29 (F := Ideal)) (Host.sqrt g)) (K_main_call0_v1 (F := Ideal))

/-- Every entry's weight. -/
def normV (v : FVec Ideal S10400 .f32) (src dst : IVec S93600 32) : FVec Ideal S93600 .f32 :=
  mulf (Host.gather gather_S10400_S93600x1_S93600_n_0_n_n_0_1_1 v (wrap src)) (Host.gather gather_S10400_S93600x1_S93600_n_0_n_n_0_1_1 v (wrap dst))

/-- Every entry's weighted message. -/
def msgV (y : FVec Ideal S10400x12x128 .f32) (w : FVec Ideal S93600 .f32) (x : IVec S93600x1 32) : FVec Ideal S93600x12x128 .f32 :=
  mulf (Host.gather gather_S10400x12x128_S93600x1_S93600x12x128_12_0_n_n_0_1_112128 y x)
    (broadcastInDim S93600x12x128 ![0, 1, 2] bcast_S93600x1x1_S93600x12x128_0_1_2 (broadcastInDim S93600x1x1 ![0] bcast_S93600_S93600x1x1_0 w))

/-- The weighted messages summed at their destination. -/
def gatherV (y : FVec Ideal S10400x12x128 .f32) (w : FVec Ideal S93600 .f32) (src dst : IVec S93600 32) : FVec Ideal S10400x12x128 .f32 :=
  Host.scatterAdd scatter_S10400x12x128_S93600x1_S93600x12x128_12_0_0_1 (K_main_v60 (F := Ideal)) (asCol dst)
    (msgV y w (wrap src))

/-- A bias added to every row. -/
def biasV (y : FVec Ideal S10400x12x128 .f32) (c : FVec Ideal S128 .f32) : FVec Ideal S10400x12x128 .f32 :=
  addf y (broadcastInDim S10400x12x128 ![0, 1, 2] bcast_S1x1x128_S10400x12x128_0_1_2 (broadcastInDim S1x1x128 ![2] bcast_S128_S1x1x128_2 c))

theorem biasV_apply (y : FVec Ideal S10400x12x128 .f32) (c : FVec Ideal S128 .f32) (r : Fin 10400) (t : Fin 12) (j : Fin 128) :
    biasV y c (ix3 r t j) = y (ix3 r t j) + c (ix1 j) := by
  pointwise [biasV]

variable (s d : Fin 2600 → Fin 325) {src dst : IVec S93600 32} (hs : ∀ e, src (ix1 e) = BitVec.ofNat 32 (rowOf s e).1)
  (hd : ∀ e, dst (ix1 e) = BitVec.ofNat 32 (rowOf d e).1)

theorem zeros_apply (r : Fin 10400) : (K_main_v23 (F := Ideal) (ix1 r) : EReal) = 0 := by
  pointwise [K_main_v23, K_main_cst_0]

theorem ones_apply (e : Fin 93600) : (K_main_v22 (F := Ideal) (ix1 e) : EReal) = 1 := by
  pointwise [K_main_v22, K_main_cst]

theorem blank_apply (r : Fin 10400) (t : Fin 12) (j : Fin 128) : (K_main_v60 (F := Ideal) (ix3 r t j) : EReal) = 0 := by
  pointwise [K_main_v60, K_main_cst_10]

include hd in
theorem degV_apply (b : Fin 32) (n : Fin 325) : degV dst (ix1 (node b n)) = ((deg d n : ℝ) : EReal) := by
  refine (add_apply (rowOf d) (asCol dst) (fun e => (asCol_apply dst e).trans (hd e)) _ _ _).trans ?_
  simp only [ones_apply]
  rw [zeros_apply, sum_into, zero_add, deg, EReal.coe_add, ← coe_sum]
  refine congrArg (fun z : EReal => z + 1) (Finset.sum_congr rfl fun k _ => ?_)
  split <;> simp

theorem dinvV_apply (g : FVec Ideal S10400 .f32) (r : Fin 10400) (n : Fin 325) (hg : g (ix1 r) = ((deg d n : ℝ) : EReal)) :
    dinvV g (ix1 r) = ((dinv d n : ℝ) : EReal) := by
  pointwise [dinvV, K_main_v26, K_main_cst_1, K_main_v29, K_main_cst_2, K_main_call0_v1, K_main_call0_v0, K_main_cst_3]
  have hp : (0 : EReal) < ((deg d n : ℝ) : EReal) := EReal.coe_pos.2 (deg_pos d n)
  have hq : Real.sqrt (deg d n) ≠ 0 := (Real.sqrt_pos.2 (deg_pos d n)).ne'
  rw [hg, if_pos hp, Ideal.sqrt_coe, if_neg (not_lt.2 (deg_pos d n).le), Ideal.div_coe hq, one_mul, dinv, one_div]

include hs hd in
theorem normV_apply (v : FVec Ideal S10400 .f32) (hv : ∀ b n, v (ix1 (node b n)) = ((dinv d n : ℝ) : EReal)) (b : Fin 32) :
    (∀ k, normV v src dst (ix1 (edge b k)) = ((dinv d (s k) * dinv d (d k) : ℝ) : EReal))
      ∧ ∀ n, normV v src dst (ix1 (self (node b n))) = ((dinv d n * dinv d n : ℝ) : EReal) := by
  have e : ∀ e, normV v src dst (ix1 e) = v (ix1 (rowOf s e)) * v (ix1 (rowOf d e)) := by
    intro e
    rw [← take_apply v (wrap src) e _ (wrap_apply src e _ (hs e)), ← take_apply v (wrap dst) e _ (wrap_apply dst e _ (hd e))]
    pointwise [normV]
  constructor
  · intro k
    rw [e, rowOf_edge, rowOf_edge, hv, hv, EReal.coe_mul]
  · intro n
    rw [e, rowOf_self, rowOf_self, hv, EReal.coe_mul]

theorem msgV_apply (y : FVec Ideal S10400x12x128 .f32) (w : FVec Ideal S93600 .f32) (x : IVec S93600x1 32) (e : Fin 93600) (r : Fin 10400)
    (h : x (ix2 e 0) = BitVec.ofNat 32 r.1) (t : Fin 12) (j : Fin 128) : msgV y w x (ix3 e t j) = y (ix3 r t j) * w (ix1 e) := by
  rw [← takeRow_apply y x e r h t j]
  unfold msgV
  generalize Host.gather gather_S10400x12x128_S93600x1_S93600x12x128_12_0_n_n_0_1_112128 y x = z
  pointwise

include hs hd in
theorem gatherV_apply (y : FVec Ideal S10400x12x128 .f32) (w : FVec Ideal S93600 .f32)
    (hw : ∀ b, (∀ k, w (ix1 (edge b k)) = ((dinv d (s k) * dinv d (d k) : ℝ) : EReal))
      ∧ ∀ n, w (ix1 (self (node b n))) = ((dinv d n * dinv d n : ℝ) : EReal))
    (t : Fin 12) (j : Fin 128) (Y : Fin 32 → Fin 325 → ℝ) (hy : ∀ b n, y (ix3 (node b n) t j) = ((Y b n : ℝ) : EReal)) (b : Fin 32) (n : Fin 325) :
    gatherV y w src dst (ix3 (node b n) t j) = ((Cert.Gcn.gather s d (Y b) n : ℝ) : EReal) := by
  refine (addRow_apply (rowOf d) (asCol dst) (fun e => (asCol_apply dst e).trans (hd e)) _ _ _ t j).trans ?_
  have m : ∀ e, msgV y w (wrap src) (ix3 e t j) = y (ix3 (rowOf s e) t j) * w (ix1 e) :=
    fun e => msgV_apply y w (wrap src) e _ (wrap_apply src e _ (hs e)) t j
  simp only [m]
  rw [sum_into, blank_apply, zero_add, gather_edges, EReal.coe_add, ← coe_sum, rowOf_self, hy, (hw b).2, ← EReal.coe_mul]
  refine congrArg (fun z : EReal => z + ((Y b n * (dinv d n * dinv d n) : ℝ) : EReal)) (Finset.sum_congr rfl fun k _ => ?_)
  rw [rowOf_edge, hy, (hw b).1, ← EReal.coe_mul]
  split <;> simp

end Cert.ReferenceIdeal.Gcn
-- ==== Proof.RefNorm.lean ====
/- The reference's products with a weight matrix and its batch norm, from real features. -/
module

public import proofs.«01_k».proof.Proof.RefConv

@[expose] public section

set_option maxRecDepth 16384

noncomputable section

namespace Cert.ReferenceIdeal.Gcn

open Cert.ReferenceIdeal Cert.ReferenceIdeal.Gen Cert.ReferenceIdeal.Step Cert.Gcn
open Idealize.ShloMosaic Idealize.ShloMosaic.TcCoe

/-- The input's rows. -/
def rowsV (x : FVec Ideal S32x12x325x2 .f32) : FVec Ideal S10400x12x2 .f32 :=
  shapeCast _ (transpose S32x325x12x2 [0, 2, 1, 3] x transposes_S32x12x325x2_S32x325x12x2_0_2_1_3) shapeCasts_S32x325x12x2_S10400x12x2

theorem rowsV_apply (x : FVec Ideal S32x12x325x2 .f32) (b : Fin 32) (n : Fin 325) (t : Fin 12) (f : Fin 2) :
    rowsV x (ix3 (node b n) t f) = x (ix4 b t n f) := by
  have h1 : (node b n).1 / 325 = b.1 := by simp only [node]; omega
  have h2 : (node b n).1 % 325 = n.1 := by simp only [node]; omega
  pointwise [rowsV]
  simp only [h1, h2]

/-- The first layer's product. -/
def dot0V (x : FVec Ideal S10400x12x2 .f32) (w : FVec Ideal S2x128 .f32) : FVec Ideal S10400x12x128 .f32 :=
  Host.dotGeneral dot_S10400x12x2_S2x128_S10400x12x128_2_0_01_1_n_n none x w

theorem dot0V_apply (x : FVec Ideal S10400x12x2 .f32) (w : FVec Ideal S2x128 .f32) (r : Fin 10400) (t : Fin 12) (j : Fin 128) :
    dot0V x w (ix3 r t j) = ∑ f : Fin 2, x (ix3 r t f) * w (ix2 f j) := by
  pointwise [dot0V]

/-- The second layer's product. -/
def dot1V (x : FVec Ideal S10400x12x128 .f32) (w : FVec Ideal S128x128 .f32) : FVec Ideal S10400x12x128 .f32 :=
  Host.dotGeneral dot_S10400x12x128_S128x128_S10400x12x128_2_0_01_1_n_n none x w

theorem dot1V_apply (x : FVec Ideal S10400x12x128 .f32) (w : FVec Ideal S128x128 .f32) (r : Fin 10400) (t : Fin 12) (j : Fin 128) :
    dot1V x w (ix3 r t j) = ∑ f : Fin 128, x (ix3 r t f) * w (ix2 f j) := by
  pointwise [dot1V]

/-- The sum over rows. -/
def sumV (h : FVec Ideal S10400x12x128 .f32) : FVec Ideal S12x128 .f32 :=
  Host.reduceAdd h (K_main_cst_11 (F := Ideal)) reducesTo_S10400x12x128_S12x128_d0 h_S_

theorem sumV_apply (h : FVec Ideal S10400x12x128 .f32) (t : Fin 12) (j : Fin 128) : sumV h (ix2 t j) = ∑ r : Fin 10400, h (ix3 r t j) := by
  pointwise [sumV, K_main_cst_11]

/-- The mean over rows. -/
def meanV (h : FVec Ideal S10400x12x128 .f32) : FVec Ideal S12x128 .f32 := Host.divf (sumV h) (K_main_v67 (F := Ideal))

/-- The same contents along every row. -/
def spreadV (v : FVec Ideal S12x128 .f32) : FVec Ideal S10400x12x128 .f32 :=
  broadcastInDim S10400x12x128 ![0, 1, 2] bcast_S1x12x128_S10400x12x128_0_1_2 (broadcastInDim S1x12x128 ![1, 2] bcast_S12x128_S1x12x128_1_2 v)

theorem spreadV_apply (v : FVec Ideal S12x128 .f32) (r : Fin 10400) (t : Fin 12) (j : Fin 128) : spreadV v (ix3 r t j) = v (ix2 t j) := by
  pointwise [spreadV]

/-- The deviation from the mean, as the variance takes it. -/
def devV (h : FVec Ideal S10400x12x128 .f32) : FVec Ideal S10400x12x128 .f32 :=
  subf h (broadcastInDim S10400x12x128 ![0, 1, 2] bcast_S1x12x128_S10400x12x128_0_1_2
    (Host.divf (broadcastInDim S1x12x128 ![1, 2] bcast_S12x128_S1x12x128_1_2 (sumV h)) (K_main_call1_v2 (F := Ideal))))

theorem devV_apply (h : FVec Ideal S10400x12x128 .f32) (r : Fin 10400) (t : Fin 12) (j : Fin 128) :
    devV h (ix3 r t j) = h (ix3 r t j) - Ideal.div (sumV h (ix2 t j)) (Ideal.ofBits .f32 0x46228000#32) := by
  pointwise [devV, K_main_call1_v2, K_main_call1_cst_0]

/-- The variance over rows. -/
def varV (u : FVec Ideal S10400x12x128 .f32) : FVec Ideal S12x128 .f32 :=
  select (broadcastInDim S12x128 ![] bcast_S_S12x128 (K_main_call1_v12 (F := Ideal)))
    (Host.divf (sumV (mulf u u)) (K_main_call1_v10 (F := Ideal))) (K_main_call1_call0_v1 (F := Ideal))

theorem rows_apply : (K_main_call1_v8 (F := Ideal) ix0 : EReal) = ((10400 : ℝ) : EReal) := by
  have h : (K_main_call1_v8 (F := Ideal) ix0 : EReal) = Ideal.ofBits .f32 0x46228000#32 - (((0#32 : BitVec 32).toInt : ℝ) : EReal) := rfl
  rw [h, rows_bits]
  simp

theorem varV_apply (u : FVec Ideal S10400x12x128 .f32) (t : Fin 12) (j : Fin 128) :
    varV u (ix2 t j) = Ideal.div (∑ r : Fin 10400, u (ix3 r t j) * u (ix3 r t j)) ((10400 : ℝ) : EReal) := by
  have hs : sumV (mulf u u) (ix2 t j) = ∑ r : Fin 10400, u (ix3 r t j) * u (ix3 r t j) := by
    rw [sumV_apply]
    rfl
  rw [← hs, ← rows_apply]
  pointwise [varV, K_main_call1_v12, K_main_call1_v10, K_main_call1_cst_3]
  have hp : (0 : EReal) < K_main_call1_v8 (F := Ideal) ix0 := by
    rw [rows_apply]
    exact EReal.coe_pos.2 (by norm_num)
  rw [if_pos hp]

/-- The root of the variance and the small constant. -/
def sdV (v : FVec Ideal S12x128 .f32) : FVec Ideal S12x128 .f32 := Host.sqrt (addf v (K_main_v73 (F := Ideal)))

/-- Batch norm from the deviations' arrays. -/
def scaleV (h : FVec Ideal S10400x12x128 .f32) (mu sd : FVec Ideal S12x128 .f32) (g : FVec Ideal S128 .f32) : FVec Ideal S10400x12x128 .f32 :=
  mulf (Host.divf (subf h (spreadV mu)) (spreadV sd))
    (broadcastInDim S10400x12x128 ![0, 1, 2] bcast_S1x1x128_S10400x12x128_0_1_2 (broadcastInDim S1x1x128 ![2] bcast_S128_S1x1x128_2 g))

theorem scaleV_apply (h : FVec Ideal S10400x12x128 .f32) (mu sd : FVec Ideal S12x128 .f32) (g : FVec Ideal S128 .f32) (r : Fin 10400) (t : Fin 12) (j : Fin 128) :
    scaleV h mu sd g (ix3 r t j) = Ideal.div (h (ix3 r t j) - mu (ix2 t j)) (sd (ix2 t j)) * g (ix1 j) := by
  pointwise [scaleV, spreadV]

/-- The positive part. -/
def reluV (y : FVec Ideal S10400x12x128 .f32) : FVec Ideal S10400x12x128 .f32 := maximumf y (K_main_call2_v0 (F := Ideal))

theorem reluV_apply (y : FVec Ideal S10400x12x128 .f32) (r : Fin 10400) (t : Fin 12) (j : Fin 128) :
    reluV y (ix3 r t j) = max (y (ix3 r t j)) 0 := by
  pointwise [reluV, K_main_call2_v0, K_main_call2_cst]

/-- Batch norm and the positive part. -/
def bnV (h : FVec Ideal S10400x12x128 .f32) (g be : FVec Ideal S128 .f32) : FVec Ideal S10400x12x128 .f32 :=
  reluV (biasV (scaleV h (meanV h) (sdV (varV (devV h))) g) be)

variable {h : FVec Ideal S10400x12x128 .f32} {t : Fin 12} {j : Fin 128} {H : Fin 32 → Fin 325 → ℝ}
  (hh : ∀ b n, h (ix3 (node b n) t j) = ((H b n : ℝ) : EReal))

include hh in
theorem sumV_real : sumV h (ix2 t j) = ((∑ b, ∑ n, H b n : ℝ) : EReal) := by
  rw [sumV_apply, sum_nodes]
  simp only [hh, coe_sum]

theorem div_rows (a : ℝ) : Ideal.div (a : EReal) ((10400 : ℝ) : EReal) = ((a / 10400 : ℝ) : EReal) := by
  rw [Ideal.div_coe (by norm_num), ← EReal.coe_mul, one_div, div_eq_mul_inv]

include hh in
theorem meanV_real : meanV h (ix2 t j) = ((mean H : ℝ) : EReal) := by
  have e : meanV h (ix2 t j) = Ideal.div (sumV h (ix2 t j)) (Ideal.ofBits .f32 0x46228000#32) := rfl
  rw [e, sumV_real hh, rows_bits, div_rows]
  rfl

include hh in
theorem varV_real : varV (devV h) (ix2 t j) = ((var H : ℝ) : EReal) := by
  have e : ∀ b n, devV h (ix3 (node b n) t j) = ((H b n - mean H : ℝ) : EReal) := by
    intro b n
    rw [devV_apply, hh, sumV_real hh, rows_bits, div_rows, ← EReal.coe_sub]
    rfl
  rw [varV_apply, sum_nodes]
  simp only [e, ← EReal.coe_mul, coe_sum]
  exact div_rows _

include hh in
theorem sdV_real : sdV (varV (devV h)) (ix2 t j) = ((Real.sqrt (var H + eps) : ℝ) : EReal) := by
  have e : sdV (varV (devV h)) (ix2 t j) = Ideal.sqrt (varV (devV h) (ix2 t j) + Ideal.ofBits .f32 0x3727C5AC#32) := rfl
  rw [e, varV_real hh, eps_bits, ← EReal.coe_add, Ideal.sqrt_coe, if_neg (not_lt.2 (add_nonneg (var_nonneg H) eps_pos.le))]

include hh in
/-- Batch norm of real features. -/
theorem bnV_apply (g be : FVec Ideal S128 .f32) (γ : ℝ) (hg : g (ix1 j) = ((γ : ℝ) : EReal)) (b : Fin 32) (n : Fin 325) :
    bnV h g be (ix3 (node b n) t j) = max (((norm H b n * γ : ℝ) : EReal) + be (ix1 j)) 0 := by
  rw [bnV, reluV_apply, biasV_apply, scaleV_apply, hh, meanV_real hh, sdV_real hh, hg, ← EReal.coe_sub, Ideal.div_coe (sd_pos H).ne',
    ← EReal.coe_mul, ← EReal.coe_mul, one_div]
  rfl

end Cert.ReferenceIdeal.Gcn
-- ==== Proof.RefGcn.lean ====
/- The reference's sequence after both convolution layers, from the argument arrays. -/
module

public import proofs.«01_k».proof.Proof.RefNorm

@[expose] public section

set_option maxRecDepth 16384

noncomputable section

namespace Cert.ReferenceIdeal.Gcn

open Cert.ReferenceIdeal Cert.ReferenceIdeal.Gen Cert.ReferenceIdeal.Step Cert.Gcn
open Idealize.ShloMosaic Idealize.ShloMosaic.TcCoe

section Chain
variable (x0 : FVec Ideal S32x12x325x2 .f32) (x1 : IVec S2x2600 32) (x2 : FVec Ideal S2x128 .f32) (x3 : FVec Ideal S128 .f32)
  (x4 : FVec Ideal S128x128 .f32) (x5 x6 x7 x8 x9 : FVec Ideal S128 .f32)

/-- The source rows. -/
def srcV : IVec S93600 32 := ends (extractStridedSlice S1x2600 ![0, 0] x1 slices_S2x2600_S1x2600_0_0)

/-- The destination rows. -/
def dstV : IVec S93600 32 := ends (extractStridedSlice S1x2600 ![1, 0] x1 slices_S2x2600_S1x2600_1_0)

/-- The edge weights. -/
def weightV : FVec Ideal S93600 .f32 := normV (dinvV (degV (dstV x1))) (srcV x1) (dstV x1)

/-- The first layer. -/
def layer0V : FVec Ideal S10400x12x128 .f32 :=
  bnV (biasV (gatherV (dot0V (rowsV x0) x2) (weightV x1) (srcV x1) (dstV x1)) x3) x6 x7

/-- The second layer. -/
def layer1V (y : FVec Ideal S10400x12x128 .f32) : FVec Ideal S10400x12x128 .f32 :=
  bnV (biasV (gatherV (dot1V y x4) (weightV x1) (srcV x1) (dstV x1)) x5) x8 x9

theorem src_eq : A_main_v20 (F := Ideal) x0 x1 x2 x3 x4 x5 x6 x7 x8 x9 = srcV x1 := rfl
theorem dst_eq : A_main_v21 (F := Ideal) x0 x1 x2 x3 x4 x5 x6 x7 x8 x9 = dstV x1 := rfl

theorem weight_eq : A_main_v46 (F := Ideal) x0 x1 x2 x3 x4 x5 x6 x7 x8 x9 = weightV x1 := rfl

theorem conv0_eq : A_main_v65 (F := Ideal) x0 x1 x2 x3 x4 x5 x6 x7 x8 x9
    = biasV (gatherV (dot0V (rowsV x0) x2) (A_main_v46 (F := Ideal) x0 x1 x2 x3 x4 x5 x6 x7 x8 x9) (A_main_v20 (F := Ideal) x0 x1 x2 x3 x4 x5 x6 x7 x8 x9)
      (A_main_v21 (F := Ideal) x0 x1 x2 x3 x4 x5 x6 x7 x8 x9)) x3 := rfl

theorem bn0_eq : A_main_v85 (F := Ideal) x0 x1 x2 x3 x4 x5 x6 x7 x8 x9 = bnV (A_main_v65 (F := Ideal) x0 x1 x2 x3 x4 x5 x6 x7 x8 x9) x6 x7 := rfl

theorem conv1_eq : A_main_v102 (F := Ideal) x0 x1 x2 x3 x4 x5 x6 x7 x8 x9
    = biasV (gatherV (dot1V (A_main_v85 (F := Ideal) x0 x1 x2 x3 x4 x5 x6 x7 x8 x9) x4) (A_main_v46 (F := Ideal) x0 x1 x2 x3 x4 x5 x6 x7 x8 x9)
      (A_main_v20 (F := Ideal) x0 x1 x2 x3 x4 x5 x6 x7 x8 x9) (A_main_v21 (F := Ideal) x0 x1 x2 x3 x4 x5 x6 x7 x8 x9)) x5 := rfl

theorem bn1_eq : A_main_v122 (F := Ideal) x0 x1 x2 x3 x4 x5 x6 x7 x8 x9 = bnV (A_main_v102 (F := Ideal) x0 x1 x2 x3 x4 x5 x6 x7 x8 x9) x8 x9 := rfl

theorem last_eq : A_main_v123 (F := Ideal) x0 x1 x2 x3 x4 x5 x6 x7 x8 x9
    = transpose S12x10400x128 [1, 0, 2] (A_main_v122 (F := Ideal) x0 x1 x2 x3 x4 x5 x6 x7 x8 x9) transposes_S10400x12x128_S12x10400x128_1_0_2 := rfl

theorem layers_eq : A_main_v122 (F := Ideal) x0 x1 x2 x3 x4 x5 x6 x7 x8 x9 = layer1V x1 x4 x5 x8 x9 (layer0V x0 x1 x2 x3 x6 x7) := by
  rw [bn1_eq, conv1_eq, bn0_eq, conv0_eq, weight_eq, src_eq, dst_eq]
  rfl

end Chain

section Value
variable {x0 : FVec Ideal S32x12x325x2 .f32} {x1 : IVec S2x2600 32} {x2 : FVec Ideal S2x128 .f32} {x3 : FVec Ideal S128 .f32}
  {x4 : FVec Ideal S128x128 .f32} {x5 x6 x7 x8 x9 : FVec Ideal S128 .f32}
  {s d : Fin 2600 → Fin 325} {X : Fin 32 → Fin 12 → Fin 325 → Fin 2 → ℝ} {W : Fin 2 → Fin 128 → ℝ} {C G B : Fin 128 → ℝ}
  {W1 : Fin 128 → Fin 128 → ℝ} {C1 G1 : Fin 128 → ℝ}
  (hs : ∀ k, x1 (ix2 0 k) = BitVec.ofNat 32 (s k).1) (hd : ∀ k, x1 (ix2 1 k) = BitVec.ofNat 32 (d k).1)
  (hx : ∀ b t n f, x0 (ix4 b t n f) = ((X b t n f : ℝ) : EReal)) (hw : ∀ f j, x2 (ix2 f j) = ((W f j : ℝ) : EReal))
  (hc : ∀ j, x3 (ix1 j) = ((C j : ℝ) : EReal)) (hw1 : ∀ f j, x4 (ix2 f j) = ((W1 f j : ℝ) : EReal))
  (hc1 : ∀ j, x5 (ix1 j) = ((C1 j : ℝ) : EReal)) (hg : ∀ j, x6 (ix1 j) = ((G j : ℝ) : EReal))
  (hbe : ∀ j, x7 (ix1 j) = ((B j : ℝ) : EReal)) (hg1 : ∀ j, x8 (ix1 j) = ((G1 j : ℝ) : EReal))

include hs in
theorem srcV_apply (e : Fin 93600) : srcV x1 (ix1 e) = BitVec.ofNat 32 (rowOf s e).1 :=
  ends_apply _ s (fun k => (by pointwise : extractStridedSlice S1x2600 ![0, 0] x1 slices_S2x2600_S1x2600_0_0 (ix2 0 k) = x1 (ix2 0 k)).trans (hs k)) e

include hd in
theorem dstV_apply (e : Fin 93600) : dstV x1 (ix1 e) = BitVec.ofNat 32 (rowOf d e).1 :=
  ends_apply _ d (fun k => (by pointwise : extractStridedSlice S1x2600 ![1, 0] x1 slices_S2x2600_S1x2600_1_0 (ix2 0 k) = x1 (ix2 1 k)).trans (hd k)) e

include hs hd in
theorem weightV_apply (b : Fin 32) : (∀ k, weightV x1 (ix1 (edge b k)) = ((dinv d (s k) * dinv d (d k) : ℝ) : EReal))
    ∧ ∀ n, weightV x1 (ix1 (self (node b n))) = ((dinv d n * dinv d n : ℝ) : EReal) :=
  normV_apply s d (srcV_apply hs) (dstV_apply hd) _ (fun b n => dinvV_apply d _ _ n (degV_apply d (dstV_apply hd) b n)) b

include hs hd in
/-- A convolution of real features, whose product with the weights is given. -/
theorem conv_real {ι : Type} [Fintype ι] (y : FVec Ideal S10400x12x128 .f32) (c : FVec Ideal S128 .f32) (t : Fin 12) (j : Fin 128)
    (Y : Fin 32 → Fin 325 → ι → ℝ) (Wt : ι → Fin 128 → ℝ) (Cb : Fin 128 → ℝ)
    (hy : ∀ b n, y (ix3 (node b n) t j) = ((∑ f, Y b n f * Wt f j : ℝ) : EReal)) (hcb : c (ix1 j) = ((Cb j : ℝ) : EReal)) (b : Fin 32) (n : Fin 325) :
    biasV (gatherV y (weightV x1) (srcV x1) (dstV x1)) c (ix3 (node b n) t j) = ((conv s d Y Wt Cb b n j : ℝ) : EReal) := by
  rw [biasV_apply, gatherV_apply s d (srcV_apply hs) (dstV_apply hd) y _ (weightV_apply hs hd) t j (fun b n => ∑ f, Y b n f * Wt f j) hy, hcb,
    gather_linear, ← EReal.coe_add]
  rfl

include hs hd hx hw hc hg hbe in
theorem layer0V_apply (t : Fin 12) (b : Fin 32) (n : Fin 325) (j : Fin 128) :
    layer0V x0 x1 x2 x3 x6 x7 (ix3 (node b n) t j) = ((hid s d (fun b n f => X b t n f) W C G B b n j : ℝ) : EReal) := by
  have hy : ∀ b n, dot0V (rowsV x0) x2 (ix3 (node b n) t j) = ((∑ f, X b t n f * W f j : ℝ) : EReal) := by
    intro b n
    rw [dot0V_apply]
    simp only [rowsV_apply, hx, hw, ← EReal.coe_mul, coe_sum]
  rw [layer0V, bnV_apply (conv_real hs hd _ x3 t j (fun b n f => X b t n f) W C hy (hc j)) x6 x7 (G j) (hg j), hbe, ← EReal.coe_add, coe_max]
  rfl

include hs hd hx hw hc hw1 hc1 hg hbe hg1 in
/-- The sequence's entry at a time step and a row. -/
theorem sequence_apply (t : Fin 12) (b : Fin 32) (n : Fin 325) (j : Fin 128) :
    (A_main_v123 (F := Ideal) x0 x1 x2 x3 x4 x5 x6 x7 x8 x9 (ix3 t (node b n) j) : EReal)
      = Cert.Gcn.out s d (fun b n f => X b t n f) W C G B W1 C1 G1 (fun j => x9 (ix1 j)) b n j := by
  have hy : ∀ b n, dot1V (layer0V x0 x1 x2 x3 x6 x7) x4 (ix3 (node b n) t j)
      = ((∑ f, hid s d (fun b n f => X b t n f) W C G B b n f * W1 f j : ℝ) : EReal) := by
    intro b n
    rw [dot1V_apply]
    simp only [layer0V_apply hs hd hx hw hc hg hbe, hw1, ← EReal.coe_mul, coe_sum]
  have e : A_main_v123 (F := Ideal) x0 x1 x2 x3 x4 x5 x6 x7 x8 x9 (ix3 t (node b n) j)
      = layer1V x1 x4 x5 x8 x9 (layer0V x0 x1 x2 x3 x6 x7) (ix3 (node b n) t j) := by
    rw [last_eq, layers_eq]
    generalize layer1V x1 x4 x5 x8 x9 (layer0V x0 x1 x2 x3 x6 x7) = z
    pointwise
  rw [e, layer1V, bnV_apply (conv_real hs hd _ x5 t j _ W1 C1 hy (hc1 j)) x8 x9 (G1 j) (hg1 j)]
  rfl

end Value

end Cert.ReferenceIdeal.Gcn
-- ==== Proof.RefLstm.lean ====
/- The reference's scan, row by row: every trip is `Spec.step` on each row. -/
module

public import proofs.«01_k».proof.Proof.Gen.ReferenceIdeal.Step
public import proofs.«01_k».proof.Proof.Spec
public import Idealize.ShloMosaic.Lib.Pipeline.ValueKit
public import Idealize.ShloMosaic.Lib.WordCmp

@[expose] public section

set_option maxRecDepth 16384

noncomputable section

namespace Cert.ReferenceIdeal.Lstm

open Cert.ReferenceIdeal Cert.ReferenceIdeal.Gen Cert.ReferenceIdeal.Step
open Idealize.ShloMosaic Idealize.ShloMosaic.TcCoe

section Vectors

variable {F : FTy → Type} [FloatOps F]

/-- The gates' arguments of every row. -/
def args (wi wh : FVec F S512x128 .f32) (bi bh : FVec F S512 .f32) (x h : FVec F S10400x128 .f32) : FVec F S10400x512 .f32 :=
  addf (addf (addf
    (Host.dotGeneral dot_S10400x128_S128x512_S10400x512_1_0_0_1_n_n none x (transpose S128x512 [1, 0] wi transposes_S512x128_S128x512_1_0))
    (Host.dotGeneral dot_S10400x128_S128x512_S10400x512_1_0_0_1_n_n none h (transpose S128x512 [1, 0] wh transposes_S512x128_S128x512_1_0)))
    (broadcastInDim S10400x512 ![0, 1] bcast_S1x512_S10400x512_0_1 (broadcastInDim S1x512 ![1] bcast_S512_S1x512_1 bi)))
    (broadcastInDim S10400x512 ![0, 1] bcast_S1x512_S10400x512_0_1 (broadcastInDim S1x512 ![1] bcast_S512_S1x512_1 bh))

/-- One, in every entry. -/
def ones : FVec F S10400x128 .f32 := broadcastInDim S10400x128 ![] bcast_S_S10400x128 (constant S_ .f32 0x3F800000#32)

/-- The logistic function as the host spells it. -/
def sig (x : FVec F S10400x128 .f32) : FVec F S10400x128 .f32 := Host.divf ones (addf ones (Host.exp (Host.negf x)))

/-- The next cell contents. -/
def nextC (g : FVec F S10400x512 .f32) (c : FVec F S10400x128 .f32) : FVec F S10400x128 .f32 :=
  addf (mulf (sig (extractStridedSlice S10400x128 ![0, 128] g slices_S10400x512_S10400x128_0_128)) c)
    (mulf (sig (extractStridedSlice S10400x128 ![0, 0] g slices_S10400x512_S10400x128_0_0))
      (Host.tanh (extractStridedSlice S10400x128 ![0, 256] g slices_S10400x512_S10400x128_0_256)))

/-- The next hidden state. -/
def nextH (g : FVec F S10400x512 .f32) (c' : FVec F S10400x128 .f32) : FVec F S10400x128 .f32 :=
  mulf (sig (extractStridedSlice S10400x128 ![0, 384] g slices_S10400x512_S10400x128_0_384)) (Host.tanh c')

variable (j : ℕ) (s : State F)

theorem b46_eq : b46 j s = nextC (args s.main_v125_1 s.main_v125_2 s.main_v125_3 s.main_v125_4 (b3 j s) s.main_v125_10) s.main_v125_11 := rfl

theorem b48_eq : b48 j s = nextH (args s.main_v125_1 s.main_v125_2 s.main_v125_3 s.main_v125_4 (b3 j s) s.main_v125_10) (b46 j s) := rfl

theorem b91_eq : b91 j s = nextC (args s.main_v125_5 s.main_v125_6 s.main_v125_7 s.main_v125_8 (b48 j s) s.main_v125_12) s.main_v125_13 := rfl

theorem b93_eq : b93 j s = nextH (args s.main_v125_5 s.main_v125_6 s.main_v125_7 s.main_v125_8 (b48 j s) s.main_v125_12) (b91 j s) := rfl

end Vectors

/-- Row `r`. -/
def row (x : FVec Ideal S10400x128 .f32) (r : Fin 10400) : Fin 128 → EReal := fun k => x (ix2 r k)

/-- The layer whose weights and biases the reference reads. -/
def layer (wi wh : FVec Ideal S512x128 .f32) (bi bh : FVec Ideal S512 .f32) : Spec.Layer :=
  ⟨fun q k => wi (ix2 q k), fun q k => wh (ix2 q k), fun q => bi (ix1 q), fun q => bh (ix1 q)⟩

section Rows

variable (wi wh : FVec Ideal S512x128 .f32) (bi bh : FVec Ideal S512 .f32) (x h c : FVec Ideal S10400x128 .f32) (r : Fin 10400)

theorem args_apply (q : Fin 512) : args wi wh bi bh x h (ix2 r q)
    = Spec.gate (layer wi wh bi bh).wi (layer wi wh bi bh).wh (layer wi wh bi bh).bi (layer wi wh bi bh).bh (row x r) (row h r) q := by
  pointwise [args]
  rfl

theorem sig_apply (k : Fin 128) : sig x (ix2 r k) = Ideal.logistic (x (ix2 r k)) := by
  pointwise [sig, ones]
  rfl

theorem unit0 (j : Fin 128) (h) : (⟨j.1, h⟩ : Fin 512) = Spec.unit 0 j := Fin.ext (by simp [Spec.unit])

theorem nextC_apply (g : FVec Ideal S10400x512 .f32) (j : Fin 128) :
    nextC g c (ix2 r j) = Ideal.logistic (g (ix2 r (Spec.unit 1 j))) * c (ix2 r j)
      + Ideal.logistic (g (ix2 r (Spec.unit 0 j))) * Ideal.tanh (g (ix2 r (Spec.unit 2 j))) := by
  pointwise [nextC, sig_apply]
  rw [unit0]
  rfl

theorem nextH_apply (g : FVec Ideal S10400x512 .f32) (j : Fin 128) :
    nextH g c (ix2 r j) = Ideal.logistic (g (ix2 r (Spec.unit 3 j))) * Ideal.tanh (c (ix2 r j)) := by
  pointwise [nextH, sig_apply]
  rfl

theorem nextC_row : row (nextC (args wi wh bi bh x h) c) r = Spec.cellC (layer wi wh bi bh) (row x r) (row h r) (row c r) := by
  funext j
  show nextC _ _ (ix2 r j) = _
  rw [nextC_apply]
  simp only [args_apply]
  rfl

theorem nextH_row : row (nextH (args wi wh bi bh x h) (nextC (args wi wh bi bh x h) c)) r
    = Spec.cellH (layer wi wh bi bh) (row x r) (row h r) (row c r) := by
  funext j
  show nextH _ _ (ix2 r j) = _
  rw [nextH_apply, args_apply]
  show _ * Ideal.tanh (row (nextC (args wi wh bi bh x h) c) r j) = _
  rw [nextC_row]
  rfl

end Rows

/-- Both layers' states on row `r`. -/
def rowState (s : State Ideal) (r : Fin 10400) : Spec.State :=
  ⟨row s.main_v125_10 r, row s.main_v125_11 r, row s.main_v125_12 r, row s.main_v125_13 r⟩

/-- Trip `j`'s input. -/
theorem b3_row (j : ℕ) (hj : j < 12) (s : State Ideal) (r : Fin 10400) :
    row (b3 j s) r = fun k => s.main_v125_0 (ix3 ⟨j, hj⟩ r k) := by
  funext k
  have hs : S12x10400x128.Slices (![j, 0, 0] : Fin 3 → ℕ) S1x10400x128 :=
    ⟨rfl, fun a => by fin_cases a <;> simp [S12x10400x128, S1x10400x128] <;> omega⟩
  have e : b2 j s = extractStridedSlice S1x10400x128 ![j, 0, 0] s.main_v125_0 hs := by
    unfold b2
    refine WordCmp.dynamicSlice_eq_extract _ _ _ _ _ _ fun a => ?_
    fin_cases a
    · exact WordCmp.toInt_ofNat_of_lt (by omega)
    · rfl
    · rfl
  show shapeCast S10400x128 (b2 j s) _ (ix2 r k) = _
  rw [e]
  pointwise

/-- A trip on a row. -/
theorem step_row (j : ℕ) (hj : j < 12) (s : State Ideal) (r : Fin 10400) :
    rowState (step j s) r = Spec.step (layer s.main_v125_1 s.main_v125_2 s.main_v125_3 s.main_v125_4)
      (layer s.main_v125_5 s.main_v125_6 s.main_v125_7 s.main_v125_8) (fun k => s.main_v125_0 (ix3 ⟨j, hj⟩ r k)) (rowState s r) := by
  have h0 := nextH_row s.main_v125_1 s.main_v125_2 s.main_v125_3 s.main_v125_4 (b3 j s) s.main_v125_10 s.main_v125_11 r
  have c0 := nextC_row s.main_v125_1 s.main_v125_2 s.main_v125_3 s.main_v125_4 (b3 j s) s.main_v125_10 s.main_v125_11 r
  have h1 := nextH_row s.main_v125_5 s.main_v125_6 s.main_v125_7 s.main_v125_8 (b48 j s) s.main_v125_12 s.main_v125_13 r
  have c1 := nextC_row s.main_v125_5 s.main_v125_6 s.main_v125_7 s.main_v125_8 (b48 j s) s.main_v125_12 s.main_v125_13 r
  rw [← b46_eq] at h0 c0
  rw [← b48_eq, b3_row j hj] at h0
  rw [b3_row j hj] at c0
  rw [← b91_eq] at h1 c1
  rw [← b93_eq, h0] at h1
  rw [h0] at c1
  show (⟨row (b48 j s) r, row (b46 j s) r, row (b93 j s) r, row (b91 j s) r⟩ : Spec.State) = _
  rw [h0, c0, h1, c1]
  rfl

/-- What no trip writes. -/
def Same (s s0 : State Ideal) : Prop :=
  s.main_v125_0 = s0.main_v125_0 ∧ s.main_v125_1 = s0.main_v125_1 ∧ s.main_v125_2 = s0.main_v125_2 ∧ s.main_v125_3 = s0.main_v125_3
    ∧ s.main_v125_4 = s0.main_v125_4 ∧ s.main_v125_5 = s0.main_v125_5 ∧ s.main_v125_6 = s0.main_v125_6
    ∧ s.main_v125_7 = s0.main_v125_7 ∧ s.main_v125_8 = s0.main_v125_8

/-- After `n` trips, every row has run its first `n` inputs. -/
theorem iter_row (it : ℕ → State Ideal) (hs : ∀ n, it (n + 1) = step n (it n))
    (hz : ∀ r, rowState (it 0) r = ⟨fun _ => 0, fun _ => 0, fun _ => 0, fun _ => 0⟩) (r : Fin 10400) :
    ∀ n, n ≤ 12 → Same (it n) (it 0) ∧ rowState (it n) r
      = Spec.run (layer (it 0).main_v125_1 (it 0).main_v125_2 (it 0).main_v125_3 (it 0).main_v125_4)
          (layer (it 0).main_v125_5 (it 0).main_v125_6 (it 0).main_v125_7 (it 0).main_v125_8)
          (fun t k => (it 0).main_v125_0 (ix3 ⟨t % 12, Nat.mod_lt _ (by decide)⟩ r k)) n
  | 0, _ => ⟨⟨rfl, rfl, rfl, rfl, rfl, rfl, rfl, rfl, rfl⟩, hz r⟩
  | n + 1, hn => by
    obtain ⟨hsame, ih⟩ := iter_row it hs hz r n (by omega)
    refine ⟨by rw [hs]; exact hsame, ?_⟩
    obtain ⟨e0, e1, e2, e3, e4, e5, e6, e7, e8⟩ := hsame
    rw [hs, step_row n (by omega), ih, e0, e1, e2, e3, e4, e5, e6, e7, e8]
    have en : n % 12 = n := Nat.mod_eq_of_lt (by omega)
    simp only [Spec.run, en]

/-- The result at an entry. -/
theorem out_apply (s : State Ideal) (wo : FVec Ideal S128x24 .f32) (bo : FVec Ideal S24 .f32) (b : Fin 32) (n : Fin 325) (o : Fin 24) :
    R_main_v130 s wo bo (ix3 b n o)
      = Spec.head (fun k o => wo (ix2 k o)) (fun o => bo (ix1 o)) (rowState s ⟨b.1 * 325 + n.1, by omega⟩).h1 o := by
  pointwise [R_main_v130]
  rfl

end Cert.ReferenceIdeal.Lstm
-- ==== Proof.RefResult.lean ====
/- The reference's result at one entry, from the argument arrays. -/
module

public import proofs.«01_k».proof.Proof.RefGcn
public import proofs.«01_k».proof.Proof.RefLstm
public import proofs.«01_k».proof.Proof.Answer

@[expose] public section

set_option maxRecDepth 16384

noncomputable section

namespace Cert.ReferenceIdeal.Whole

open Cert.ReferenceIdeal Cert.ReferenceIdeal.Gen Cert.ReferenceIdeal.Step
open Idealize.ShloMosaic Idealize.ShloMosaic.TcCoe

/-- The states of the recurrence from a first state. -/
def states (z : State Ideal) : ℕ → State Ideal
  | 0 => z
  | n + 1 => step n (states z n)

/-- The recurrence starts from zero. -/
theorem zero_apply (r : Fin 10400) (k : Fin 128) : (K_main_v124 (F := Ideal) (ix2 r k) : EReal) = 0 := by
  pointwise [K_main_v124, K_main_cst_22]

variable {x0 : FVec Ideal S32x12x325x2 .f32} {x1 : IVec S2x2600 32} {x2 : FVec Ideal S2x128 .f32} {x3 : FVec Ideal S128 .f32}
  {x4 : FVec Ideal S128x128 .f32} {x5 x6 x7 x8 x9 : FVec Ideal S128 .f32} {y0 y1 : FVec Ideal S512x128 .f32} {y2 y3 : FVec Ideal S512 .f32}
  {y4 y5 : FVec Ideal S512x128 .f32} {y6 y7 : FVec Ideal S512 .f32} {y8 : FVec Ideal S128x24 .f32} {y9 : FVec Ideal S24 .f32} {a : Args}
  (hs : ∀ k, x1 (ix2 0 k) = BitVec.ofNat 32 (a.s k).1) (hd : ∀ k, x1 (ix2 1 k) = BitVec.ofNat 32 (a.d k).1)
  (hx : ∀ b t n f, x0 (ix4 b t n f) = ((a.x b t n f : ℝ) : EReal)) (hw : ∀ f j, x2 (ix2 f j) = ((a.w0 f j : ℝ) : EReal))
  (hc : ∀ j, x3 (ix1 j) = ((a.c0 j : ℝ) : EReal)) (hw1 : ∀ f j, x4 (ix2 f j) = ((a.w1 f j : ℝ) : EReal))
  (hc1 : ∀ j, x5 (ix1 j) = ((a.c1 j : ℝ) : EReal)) (hg : ∀ j, x6 (ix1 j) = ((a.g0 j : ℝ) : EReal))
  (hbe : ∀ j, x7 (ix1 j) = ((a.be0 j : ℝ) : EReal)) (hg1 : ∀ j, x8 (ix1 j) = ((a.g1 j : ℝ) : EReal))
  (hbe1 : a.be1 = fun j => x9 (ix1 j)) (h0 : a.l0 = Lstm.layer y0 y1 y2 y3) (h1 : a.l1 = Lstm.layer y4 y5 y6 y7)
  (hwo : a.wo = fun k o => y8 (ix2 k o)) (hbo : a.bo = fun o => y9 (ix1 o))

include hs hd hx hw hc hw1 hc1 hg hbe hg1 hbe1 h0 h1 hwo hbo in
/-- The reference's result. -/
theorem result (b : Fin 32) (n : Fin 325) (o : Fin 24) :
    (R_main_v130 (F := Ideal) (states (init y0 y1 y2 y3 y4 y5 y6 y7 x0 x1 x2 x3 x4 x5 x6 x7 x8 x9) 12) y8 y9 (ix3 b n o) : EReal) = a.answer b n o := by
  rw [Lstm.out_apply, (Lstm.iter_row _ (fun _ => rfl) (fun r => ?_) _ 12 le_rfl).2, Args.answer, hwo, hbo, h0, h1]
  · have e : (fun (t : ℕ) k => a.conv ⟨t % 12, Nat.mod_lt _ (by decide)⟩ b n k)
        = fun t k => A_main_v123 (F := Ideal) x0 x1 x2 x3 x4 x5 x6 x7 x8 x9 (ix3 ⟨t % 12, Nat.mod_lt _ (by decide)⟩ (Gcn.node b n) k) := by
      funext t k
      rw [Gcn.sequence_apply hs hd hx hw hc hw1 hc1 hg hbe hg1, Args.conv, hbe1]
    rw [e]
    rfl
  · show (⟨fun k => K_main_v124 (F := Ideal) (ix2 r k), fun k => K_main_v124 (F := Ideal) (ix2 r k), fun k => K_main_v124 (F := Ideal) (ix2 r k),
      fun k => K_main_v124 (F := Ideal) (ix2 r k)⟩ : Spec.State) = _
    simp only [zero_apply]

end Cert.ReferenceIdeal.Whole

end
-- ==== Proof.Precondition.lean ====
/- What the precondition says of the argument arrays: node numbers for edges, finite entries. -/
module

public import proofs.«01_k».proof.Defs
public import proofs.«01_k».proof.Proof.Gen.Pre_finite_in_range
public import proofs.«01_k».proof.Proof.KernelResult
public import Idealize.ShloMosaic.Lib.ReduceAll

@[expose] public section

set_option maxRecDepth 16384

noncomputable section

namespace Cert.Precondition

open Cert.Pre_finite_in_range Cert.Pre_finite_in_range.Facts
open Idealize.ShloMosaic Idealize.ShloMosaic.TcCoe

/-- A number whose absolute value is below infinity is real. -/
theorem real_of (x : EReal) (h : max x (-x) < ⊤) : ∃ r : ℝ, x = (r : EReal) := by
  induction x using EReal.rec with
  | bot => simp at h
  | top => simp at h
  | coe r => exact ⟨r, rfl⟩

/-- An array whose entries are all tested finite is an array of reals. -/
theorem finite {S : Shape} {axes : List (Fin S.rank)} (x : FVec Ideal S .f32) (hb : S_.BroadcastsInDim S (![] : Fin 0 → Fin S.rank))
    (hr : S.ReducesTo axes S_) (hu : 0 < S_.numel)
    (e : Host.reduce IntOp.andi (cmpf .olt (Host.absf x) (broadcastInDim S ![] hb (constant (F := Ideal) S_ .f32 0x7F800000#32))) (constantI S_ 1 1#1) hr hu ix0 = 1#1)
    (i : S.Idx) : ∃ r : ℝ, x i = (r : EReal) := by
  have h := Host.reduce_andi_all _ _ hr hu ix0 e i
  have ht : Ideal.ofBits .f32 0x7F800000#32 = ⊤ := by simp [Ideal.ofBits, Ideal.ieee]
  refine real_of _ ?_
  rw [← ht]
  exact (Ideal.cmp_olt_eq_one _ _).1 h

/-- Words tested to lie in the range of the nodes are node numbers. -/
theorem nodes (x : IVec S2x2600 32) (hb : S_.BroadcastsInDim S2x2600 (![] : Fin 0 → Fin S2x2600.rank))
    (hr : S2x2600.ReducesTo [0, 1] S_) (hu : 0 < S_.numel)
    (e : Host.reduce IntOp.andi (andi (cmpi .sge x (broadcastInDim S2x2600 ![] hb (constantI S_ 32 0#32)))
      (cmpi .slt x (broadcastInDim S2x2600 ![] hb (constantI S_ 32 325#32)))) (constantI S_ 1 1#1) hr hu ix0 = 1#1)
    (i : S2x2600.Idx) : ∃ n : Fin 325, x i = BitVec.ofNat 32 n.1 := by
  have h := IntOp.andi_eq_one.1 (Host.reduce_andi_all _ _ hr hu ix0 e i)
  have h0 : (0#32 : BitVec 32).toInt ≤ (x i).toInt := IntOp.cmpi_sge.1 h.1
  have h1 : (x i).toInt < (325#32 : BitVec 32).toInt := IntOp.cmpi_slt.1 h.2
  generalize x i = w at h0 h1
  rw [show (0#32 : BitVec 32).toInt = 0 by decide, BitVec.toInt_eq_toNat_cond] at h0
  rw [show (325#32 : BitVec 32).toInt = 325 by decide, BitVec.toInt_eq_toNat_cond] at h1
  refine ⟨⟨w.toNat, ?_⟩, ?_⟩
  · have := w.isLt
    split at h0 <;> split at h1 <;> omega
  · exact (BitVec.ofNat_toNat _ _).symm ▸ (by simp)

variable (m : (ℓ : Loc Cert.KernelIdeal.nD Cert.KernelIdeal.τ Cert.KernelIdeal.sig) → Buf (Elt Ideal) ℓ) (c : Dev Cert.KernelIdeal.nD)

/-- The argument arrays the precondition allows, as functions. -/
theorem args [Cert.Pre_finite_in_range.Facts] (h : Cert.Pre_KernelIdeal_finite_in_range m) : ∃ a : Args, Cert.KernelIdeal.Whole.Holds m c a := by
  have h0 := congrFun (h c) ix0
  simp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e1, e0⟩ := IntOp.andi_eq_one.1 h0
  choose n hn using nodes _ _ _ _ e1
  choose x hx using finite _ _ _ _ e0
  choose w0 hw0 using finite _ _ _ _ e2
  choose c0 hc0 using finite _ _ _ _ e3
  choose w1 hw1 using finite _ _ _ _ e4
  choose c1 hc1 using finite _ _ _ _ e5
  choose g0 hg0 using finite _ _ _ _ e6
  choose be0 hbe0 using finite _ _ _ _ e7
  choose g1 hg1 using finite _ _ _ _ e8
  exact ⟨⟨fun k => n (ix2 0 k), fun k => n (ix2 1 k), fun b t n f => x (ix4 b t n f), fun f j => w0 (ix2 f j), fun j => c0 (ix1 j),
    fun f j => w1 (ix2 f j), fun j => c1 (ix1 j), fun j => g0 (ix1 j), fun j => be0 (ix1 j), fun j => g1 (ix1 j), _, _, _, _, _⟩,
    ⟨fun _ => hn _, fun _ => hn _, fun _ _ _ _ => hx _, fun _ _ => hw0 _, fun _ => hc0 _, fun _ _ => hw1 _, fun _ => hc1 _, fun _ => hg0 _,
      fun _ => hbe0 _, fun _ => hg1 _, rfl, rfl, rfl, rfl, rfl⟩⟩

end Cert.Precondition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_finite_in_range
public import proofs.«01_k».proof.Proof.KernelRun
public import proofs.«01_k».proof.Proof.KernelResult
public import proofs.«01_k».proof.Proof.RefResult
public import proofs.«01_k».proof.Proof.Precondition
public import Idealize.ShloMosaic.Adequacy
public import Idealize.ShloMosaic.Init

@[expose] public section

noncomputable section

namespace Cert.Proof

open Idealize.ShloMosaic Idealize.ShloMosaic.TcCoe Idealize.SL.Sem

/-- The reference leaves its arguments as launched, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same result, the model's answer at every entry. -/
theorem same : Cert.algebraic_KernelIdeal_ReferenceIdeal_pre_finite_in_range := by
  intro m ρ m' ρ' hpre hag
  refine ⟨fun c => Cert.KernelIdeal.Gen.W7 m ρ c (Proc.devRef .tc Cert.KernelIdeal.main_v0), Cert.KernelIdeal.Value.run m ρ, ?_⟩
  refine (θ_run Cert.ReferenceIdeal.defs _ _).mono (fun r h c => ⟨(h c).1.trans ?_, (h c).2⟩)
    (Cert.ReferenceIdeal.StepRun.run_iter m' ρ' (fun c => Cert.ReferenceIdeal.Whole.states (Cert.ReferenceIdeal.StepRun.initState m' c)) (fun _ => rfl) fun _ _ => rfl)
  obtain ⟨a, ha⟩ := Cert.Precondition.args m c hpre
  obtain ⟨e0, e1, e2, e3, e4, e5, e6, e7, e8, e9, e10, e11, e12, e13, e14, e15, e16, e17, e18, e19⟩ := hag c
  rw [Cert.ReferenceIdeal.StepRun.initState, e0, e1, e2, e3, e4, e5, e6, e7, e8, e9, e10, e11, e12, e13, e14, e15, e16, e17, e18, e19]
  funext i
  idx_vars i
  exact (Cert.ReferenceIdeal.Whole.result ha.src ha.dst ha.x ha.w0 ha.c0 ha.w1 ha.c1 ha.g0 ha.be0 ha.g1 ha.be1 ha.l0 ha.l1 ha.wo ha.bo _ _ _).trans
    (Cert.KernelIdeal.Whole.result ρ ha _ _ _).symm

theorem claim : Cert.Claim :=
  ⟨Cert.Kernel.Gen.facts, Cert.KernelIdeal.Gen.facts, Cert.ReferenceIdeal.Gen.facts, Cert.Pre_finite_in_range.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, same⟩

end Cert.Proof

end
